-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v4)) (v2 : (c : Dev Cert.KernelIdeal.nD) → Buf (Elt Ideal) ((c.tc : Thread Cert.KernelIdeal.nD Cert.KernelIdeal.τ).loc Cert.KernelIdeal.main_v5)) (v3 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_v5) = v2 c
          ∧ r.2.mem ((c.tc : Thread Cert.KernelIdeal.nD Cert.KernelIdeal.τ).loc Cert.KernelIdeal.main_v6) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_v67) = v1 c
          ∧ r.2.mem ((c.tc : Thread Cert.ReferenceIdeal.nD Cert.ReferenceIdeal.τ).loc Cert.ReferenceIdeal.main_v21) = v2 c
          ∧ r.2.mem ((c.tc : Thread Cert.ReferenceIdeal.nD Cert.ReferenceIdeal.τ).loc Cert.ReferenceIdeal.main_v44) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S4x2048x2048 : Shape := ⟨3, ![4, 2048, 2048]⟩
abbrev S2048x2048 : Shape := ⟨2, ![2048, 2048]⟩
abbrev S2048 : Shape := ⟨1, ![2048]⟩
abbrev S1x2x1024x256 : Shape := ⟨4, ![1, 2, 1024, 256]⟩
abbrev S_ : Shape := ⟨0, ![]⟩

class Facts : Prop where
  bcast_S_S4x2048x2048 : S_.BroadcastsInDim S4x2048x2048 (![] : Fin 0 → Fin S4x2048x2048.rank)
  reducesTo_S4x2048x2048_S_d0_1_2 : S4x2048x2048.ReducesTo [0, 1, 2] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S4x2048x2048 .f32) (main_arg1 : FVec F S2048x2048 .f32) (main_arg2 : FVec F S2048 .f32) (main_arg3 : FVec F S1x2x1024x256 .f32) : IVec S_ 1 :=
  let main_v0 : FVec F S4x2048x2048 .f32 := Host.absf main_arg0
  let main_cst : FVec F S_ .f32 := constant S_ .f32 0x7F800000#32
  let main_v1 : FVec F S4x2048x2048 .f32 := broadcastInDim S4x2048x2048 ![] bcast_S_S4x2048x2048 main_cst
  let main_v2 : IVec S4x2048x2048 1 := cmpf .olt main_v0 main_v1
  let main_c : IVec S_ 1 := constantI S_ 1 1#1
  let main_v3 : IVec S_ 1 := (fun x v => Host.reduce IntOp.andi x v reducesTo_S4x2048x2048_S_d0_1_2 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  main_v13
-- ==== Kernel.lean ====
abbrev S4x2048x2048 : Shape := ⟨3, ![4, 2048, 2048]⟩
abbrev S2048x2048 : Shape := ⟨2, ![2048, 2048]⟩
abbrev S2048 : Shape := ⟨1, ![2048]⟩
abbrev S1x2x1024x256 : Shape := ⟨4, ![1, 2, 1024, 256]⟩
abbrev S2x1024x256 : Shape := ⟨3, ![2, 1024, 256]⟩
abbrev S2x256x1024 : Shape := ⟨3, ![2, 256, 1024]⟩
abbrev S2048x1 : Shape := ⟨2, ![2048, 1]⟩
abbrev S4x512x2048 : Shape := ⟨3, ![4, 512, 2048]⟩
abbrev S1x1 : Shape := ⟨2, ![1, 1]⟩
abbrev S2x1024 : Shape := ⟨2, ![2, 1024]⟩
abbrev S1x2048x1024 : Shape := ⟨3, ![1, 2048, 1024]⟩
abbrev S1x512x1024 : Shape := ⟨3, ![1, 512, 1024]⟩
abbrev S2048x1024 : Shape := ⟨2, ![2048, 1024]⟩
abbrev S2x1024x1024 : Shape := ⟨3, ![2, 1024, 1024]⟩
abbrev S2x1x1024 : Shape := ⟨3, ![2, 1, 1024]⟩
abbrev S1x256x1024 : Shape := ⟨3, ![1, 256, 1024]⟩
abbrev S256x1024 : Shape := ⟨2, ![256, 1024]⟩
abbrev S1x1024x1024 : Shape := ⟨3, ![1, 1024, 1024]⟩
abbrev S1024x1024 : Shape := ⟨2, ![1024, 1024]⟩
abbrev S2 : Shape := ⟨1, ![2]⟩
abbrev S1x2 : Shape := ⟨2, ![1, 2]⟩
abbrev S1 : Shape := ⟨1, ![1]⟩
abbrev S_ : Shape := ⟨0, ![]⟩

abbrev nBuf : Space → Nat
  | .hbm => 16
  | .vmem => 12
  | .smem => 0
  | _ => 0

abbrev bufTy : (tb : Table) → Fin (tcTables nBuf tb) → BufTy
  | .hbm, ⟨0, _⟩ => ⟨S4x2048x2048, .f32⟩
  | .hbm, ⟨1, _⟩ => ⟨S2048x2048, .f32⟩
  | .hbm, ⟨2, _⟩ => ⟨S2048, .f32⟩
  | .hbm, ⟨3, _⟩ => ⟨S1x2x1024x256, .f32⟩
  | .hbm, ⟨4, _⟩ => ⟨S2x1024x256, .f32⟩
  | .hbm, ⟨5, _⟩ => ⟨S2x256x1024, .f32⟩
  | .hbm, ⟨6, _⟩ => ⟨S2048x1, .f32⟩
  | .hbm, ⟨7, _⟩ => ⟨S4x512x2048, .f32⟩
  | .hbm, ⟨8, _⟩ => ⟨S1x1, .f32⟩
  | .hbm, ⟨9, _⟩ => ⟨S1x1, .f32⟩
  | .hbm, ⟨10, _⟩ => ⟨S1x1, .f32⟩
  | .hbm, ⟨11, _⟩ => ⟨S2x1024, .f32⟩
  | .hbm, ⟨12, _⟩ => ⟨S2x1024, .f32⟩
  | .hbm, ⟨13, _⟩ => ⟨S_, .f32⟩
  | .hbm, ⟨14, _⟩ => ⟨S_, .f32⟩
  | .hbm, ⟨15, _⟩ => ⟨S_, .f32⟩
  | .local _ .vmem, ⟨0, _⟩ => ⟨S1x2048x1024, .f32⟩
  | .local _ .vmem, ⟨1, _⟩ => ⟨S1x2048x1024, .f32⟩
  | .local _ .vmem, ⟨2, _⟩ => ⟨S2048x2048, .f32⟩
  | .local _ .vmem, ⟨3, _⟩ => ⟨S2048x1, .f32⟩
  | .local _ .vmem, ⟨4, _⟩ => ⟨S2x256x1024, .f32⟩
  | .local _ .vmem, ⟨5, _⟩ => ⟨S1x512x1024, .f32⟩
  | .local _ .vmem, ⟨6, _⟩ => ⟨S1x512x1024, .f32⟩
  | .local _ .vmem, ⟨7, _⟩ => ⟨S1x1, .f32⟩
  | .local _ .vmem, ⟨8, _⟩ => ⟨S1x1, .f32⟩
  | .local _ .vmem, ⟨9, _⟩ => ⟨S1x1, .f32⟩
  | .local _ .vmem, ⟨10, _⟩ => ⟨S2x1024, .f32⟩
  | .local _ .vmem, ⟨11, _⟩ => ⟨S2x1024, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev main_v3_4 : Ref sig .tc := ⟨.hbm, 11, rfl⟩
abbrev main_v3_5 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11

abbrev nD : Nat := 1
abbrev τ : Topo := Topo.v7x

variable {F : FTy → Type} [FloatOps F]

abbrev grid0 : Pipeline.Grid := ⟨2, ![4, 2], ![false, false]⟩

def k0_cond2 (i : grid0.Coords) : BitVec 1 :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c7_i32 : BitVec 32 := 7#32
  let v63 : BitVec 1 := Scalar.cmpi .eq v1 c7_i32
  let v64 : BitVec 32 := Scalar.extui v63
  let c0_i32_33 : BitVec 32 := 0#32
  let v65 : BitVec 1 := Scalar.cmpi .ne v64 c0_i32_33
  v65

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2048x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2x256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S2x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S2x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]
-- ==== ReferenceIdeal.lean ====
abbrev S4x2048x2048 : Shape := ⟨3, ![4, 2048, 2048]⟩
abbrev S2048x2048 : Shape := ⟨2, ![2048, 2048]⟩
abbrev S2048 : Shape := ⟨1, ![2048]⟩
abbrev S1x2x1024x256 : Shape := ⟨4, ![1, 2, 1024, 256]⟩
abbrev S8192x2048 : Shape := ⟨2, ![8192, 2048]⟩
abbrev S1x2048 : Shape := ⟨2, ![1, 2048]⟩
abbrev S16384x1024 : Shape := ⟨2, ![16384, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S8192x2x1024 : Shape := ⟨3, ![8192, 2, 1024]⟩
abbrev S2x1024 : Shape := ⟨2, ![2, 1024]⟩
abbrev S2 : Shape := ⟨1, ![2]⟩
abbrev S8192x2 : Shape := ⟨2, ![8192, 2]⟩
abbrev S8192x2x1 : Shape := ⟨3, ![8192, 2, 1]⟩
abbrev S2x1024x256 : Shape := ⟨3, ![2, 1024, 256]⟩
abbrev S2x256x8192 : Shape := ⟨3, ![2, 256, 8192]⟩
abbrev S8192x2x256 : Shape := ⟨3, ![8192, 2, 256]⟩
abbrev S4x2048x512 : Shape := ⟨3, ![4, 2048, 512]⟩
abbrev S4x512x2048 : Shape := ⟨3, ![4, 512, 2048]⟩

abbrev nBuf : Space → Nat
  | .hbm => 100
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S2048x2048, .f32⟩
  | .hbm, ⟨2, _⟩ => ⟨S2048, .f32⟩
  | .hbm, ⟨3, _⟩ => ⟨S1x2x1024x256, .f32⟩
  | .hbm, ⟨4, _⟩ => ⟨S4x2048x2048, .f32⟩
  | .hbm, ⟨5, _⟩ => ⟨S8192x2048, .f32⟩
  | .hbm, ⟨6, _⟩ => ⟨S2048x2048, .f32⟩
  | .hbm, ⟨7, _⟩ => ⟨S8192x2048, .f32⟩
  | .hbm, ⟨8, _⟩ => ⟨S1x2048, .f32⟩
  | .hbm, ⟨9, _⟩ => ⟨S8192x2048, .f32⟩
  | .hbm, ⟨10, _⟩ => ⟨S8192x2048, .f32⟩
  | .hbm, ⟨11, _⟩ => ⟨S16384x1024, .f32⟩
  | .hbm, ⟨12, _⟩ => ⟨S16384x1024, .i32⟩
  | .hbm, ⟨13, _⟩ => ⟨S_, .f32⟩
  | .hbm, ⟨14, _⟩ => ⟨S_, .i32⟩
  | .hbm, ⟨15, _⟩ => ⟨S16384, .f32⟩
  | .hbm, ⟨16, _⟩ => ⟨S16384, .i32⟩
  | .hbm, ⟨17, _⟩ => ⟨S16384x1, .i32⟩
  | .hbm, ⟨18, _⟩ => ⟨S1x1024, .i32⟩
  | .hbm, ⟨19, _⟩ => ⟨S16384x1024, .i32⟩
  | .hbm, ⟨20, _⟩ => ⟨S16384x1024, .i32⟩
  | .hbm, ⟨21, _⟩ => ⟨S16384x1024, .i1⟩
  | .hbm, ⟨22, _⟩ => ⟨S16384x1024, .f32⟩
  | .hbm, ⟨23, _⟩ => ⟨S8192x2x1024, .f32⟩
  | .hbm, ⟨24, _⟩ => ⟨S_, .f32⟩
  | .hbm, ⟨25, _⟩ => ⟨S2x1024, .f32⟩
  | .hbm, ⟨26, _⟩ => ⟨S_, .f32⟩
  | .hbm, ⟨27, _⟩ => ⟨S2x1024, .f32⟩
  | .hbm, ⟨28, _⟩ => ⟨S2x1024, .f32⟩
  | .hbm, ⟨29, _⟩ => ⟨S_, .f32⟩
  | .hbm, ⟨30, _⟩ => ⟨S2x1024, .f32⟩
  | .hbm, ⟨31, _⟩ => ⟨S2x1024, .f32⟩
  | .hbm, ⟨32, _⟩ => ⟨S2x1024, .f32⟩
  | .hbm, ⟨33, _⟩ => ⟨S2x1024, .f32⟩
  | .hbm, ⟨34, _⟩ => ⟨S_, .f32⟩
  | .hbm, ⟨35, _⟩ => ⟨S2, .f32⟩
  | .hbm, ⟨36, _⟩ => ⟨S2, .f32⟩
  | .hbm, ⟨37, _⟩ => ⟨S2, .f32⟩
  | .hbm, ⟨38, _⟩ => ⟨S_, .f32⟩
  | .hbm, ⟨39, _⟩ => ⟨S_, .f32⟩
  | .hbm, ⟨40, _⟩ => ⟨S8192x2x1024, .f32⟩
  | .hbm, ⟨41, _⟩ => ⟨S_, .f32⟩
  | .hbm, ⟨42, _⟩ => ⟨S8192x2, .f32⟩
  | .hbm, ⟨43, _⟩ => ⟨S_, .f32⟩
  | .hbm, ⟨44, _⟩ => ⟨S8192x2, .f32⟩
  | .hbm, ⟨45, _⟩ => ⟨S8192x2, .f32⟩
  | .hbm, ⟨46, _⟩ => ⟨S8192x2x1, .f32⟩
  | .hbm, ⟨47, _⟩ => ⟨S8192x2x1024, .f32⟩
  | .hbm, ⟨48, _⟩ => ⟨S8192x2x1024, .f32⟩
  | .hbm, ⟨49, _⟩ => ⟨S8192x2x1024, .f32⟩
  | .hbm, ⟨50, _⟩ => ⟨S_, .f32⟩
  | .hbm, ⟨51, _⟩ => ⟨S8192x2, .f32⟩
  | .hbm, ⟨52, _⟩ => ⟨S8192x2x1, .f32⟩
  | .hbm, ⟨53, _⟩ => ⟨S8192x2x1024, .f32⟩
  | .hbm, ⟨54, _⟩ => ⟨S8192x2x1024, .f32⟩
  | .hbm, ⟨55, _⟩ => ⟨S_, .f32⟩
  | .hbm, ⟨56, _⟩ => ⟨S2x1024, .f32⟩
  | .hbm, ⟨57, _⟩ => ⟨S_, .f32⟩
  | .hbm, ⟨58, _⟩ => ⟨S2x1024, .f32⟩
  | .hbm, ⟨59, _⟩ => ⟨S2x1024, .f32⟩
  | .hbm, ⟨60, _⟩ => ⟨S_, .f32⟩
  | .hbm, ⟨61, _⟩ => ⟨S2x1024, .f32⟩
  | .hbm, ⟨62, _⟩ => ⟨S2x1024, .f32⟩
  | .hbm, ⟨63, _⟩ => ⟨S2x1024, .f32⟩
  | .hbm, ⟨64, _⟩ => ⟨S2x1024, .f32⟩
  | .hbm, ⟨65, _⟩ => ⟨S_, .f32⟩
  | .hbm, ⟨66, _⟩ => ⟨S2, .f32⟩
  | .hbm, ⟨67, _⟩ => ⟨S2, .f32⟩
  | .hbm, ⟨68, _⟩ => ⟨S2, .f32⟩
  | .hbm, ⟨69, _⟩ => ⟨S_, .f32⟩
  | .hbm, ⟨70, _⟩ => ⟨S_, .f32⟩
  | .hbm, ⟨71, _⟩ => ⟨S8192x2x1024, .f32⟩
  | .hbm, ⟨72, _⟩ => ⟨S_, .f32⟩
  | .hbm, ⟨73, _⟩ => ⟨S8192x2x1024, .f32⟩
  | .hbm, ⟨74, _⟩ => ⟨S8192x2x1024, .f32⟩
  | .hbm, ⟨75, _⟩ => ⟨S_, .f32⟩
  | .hbm, ⟨76, _⟩ => ⟨S8192x2, .f32⟩
  | .hbm, ⟨77, _⟩ => ⟨S_, .f32⟩
  | .hbm, ⟨78, _⟩ => ⟨S8192x2, .f32⟩
  | .hbm, ⟨79, _⟩ => ⟨S8192x2, .f32⟩
  | .hbm, ⟨80, _⟩ => ⟨S8192x2x1, .f32⟩
  | .hbm, ⟨81, _⟩ => ⟨S8192x2x1024, .f32⟩
  | .hbm, ⟨82, _⟩ => ⟨S8192x2x1024, .f32⟩
  | .hbm, ⟨83, _⟩ => ⟨S8192x2x1024, .f32⟩
  | .hbm, ⟨84, _⟩ => ⟨S_, .f32⟩
  | .hbm, ⟨85, _⟩ => ⟨S8192x2, .f32⟩
  | .hbm, ⟨86, _⟩ => ⟨S8192x2x1, .f32⟩
  | .hbm, ⟨87, _⟩ => ⟨S8192x2x1024, .f32⟩
  | .hbm, ⟨88, _⟩ => ⟨S8192x2x1024, .f32⟩
  | .hbm, ⟨89, _⟩ => ⟨S8192x2x1024, .f32⟩
  | .hbm, ⟨90, _⟩ => ⟨S8192x2x1024, .f32⟩
  | .hbm, ⟨91, _⟩ => ⟨S2x1024x256, .f32⟩
  | .hbm, ⟨92, _⟩ => ⟨S2x256x8192, .f32⟩
  | .hbm, ⟨93, _⟩ => ⟨S8192x2x256, .f32⟩
  | .hbm, ⟨94, _⟩ => ⟨S4x2048x512, .f32⟩
  | .hbm, ⟨95, _⟩ => ⟨S4x512x2048, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_call0_v0 : Ref sig .tc := ⟨.hbm, 12, rfl⟩
abbrev main_call0_cst : Ref sig .tc := ⟨.hbm, 13, rfl⟩
abbrev main_call0_c : Ref sig .tc := ⟨.hbm, 14, rfl⟩
abbrev main_call0_v1_0 : Ref sig .tc := ⟨.hbm, 15, rfl⟩
abbrev main_v8 : Ref sig .tc := ⟨.hbm, 16, rfl⟩
abbrev main_call1_v0 : Ref sig .tc := ⟨.hbm, 17, rfl⟩
abbrev main_call1_v1 : Ref sig .tc := ⟨.hbm, 18, rfl⟩
abbrev main_call1_v2 : Ref sig .tc := ⟨.hbm, 19, rfl⟩
abbrev main_call1_v3 : Ref sig .tc := ⟨.hbm, 20, rfl⟩
abbrev main_call1_v4 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_cst_0 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_3 : Ref sig .tc := ⟨.hbm, 38, rfl⟩
abbrev main_v21 : Ref sig .tc := ⟨.hbm, 39, rfl⟩
abbrev main_v22 : Ref sig .tc := ⟨.hbm, 40, rfl⟩
abbrev main_cst_4 : Ref sig .tc := ⟨.hbm, 41, rfl⟩
abbrev main_v23 : Ref sig .tc := ⟨.hbm, 42, rfl⟩
abbrev main_cst_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_6 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_7 : Ref sig .tc := ⟨.hbm, 55, rfl⟩
abbrev main_v34 : Ref sig .tc := ⟨.hbm, 56, rfl⟩
abbrev main_cst_8 : Ref sig .tc := ⟨.hbm, 57, rfl⟩
abbrev main_v35 : Ref sig .tc := ⟨.hbm, 58, rfl⟩
abbrev main_v36 : Ref sig .tc := ⟨.hbm, 59, rfl⟩
abbrev main_cst_9 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_10 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_11 : Ref sig .tc := ⟨.hbm, 69, rfl⟩
abbrev main_v44 : Ref sig .tc := ⟨.hbm, 70, rfl⟩
abbrev main_v45 : Ref sig .tc := ⟨.hbm, 71, rfl⟩
abbrev main_cst_12 : Ref sig .tc := ⟨.hbm, 72, rfl⟩
abbrev main_v46 : Ref sig .tc := ⟨.hbm, 73, rfl⟩
abbrev main_v47 : Ref sig .tc := ⟨.hbm, 74, rfl⟩
abbrev main_cst_13 : Ref sig .tc := ⟨.hbm, 75, rfl⟩
abbrev main_v48 : Ref sig .tc := ⟨.hbm, 76, rfl⟩
abbrev main_cst_14 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_cst_15 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_cst_16 : Ref sig .tc := ⟨.hbm, 96, rfl⟩
abbrev main_v66 : Ref sig .tc := ⟨.hbm, 97, rfl⟩
abbrev main_cst_17 : Ref sig .tc := ⟨.hbm, 98, rfl⟩
abbrev main_v67 : Ref sig .tc := ⟨.hbm, 99, rfl⟩

abbrev nD : Nat := 1
abbrev τ : Topo := Topo.v7x

variable {F : FTy → Type} [FloatOps F]
-- ==== Proof.RefVals.lean ====
/-
  The values of the reference program as functions of its four arguments: the logits, the hard one-hot
  assignment, the softmax, the perplexity of a mean over the tokens, the quantised result.
-/
module

public import proofs.«01_k».proof.Proof.Gen.ReferenceIdeal
public import Idealize.ShloMosaic.Lib.StableHlo.Run

@[expose] public section

noncomputable section

namespace VQ.Ref

open Cert.ReferenceIdeal Cert.ReferenceIdeal.Gen Idealize.ShloMosaic

variable {F : FTy → Type} [FloatOps F]

/-- The logits of every token, a row per token (batch-major), a column per code of either group. -/
def logits (x : FVec F S4x2048x2048 .f32) (W : FVec F S2048x2048 .f32) (b : FVec F S2048 .f32) : FVec F S8192x2048 .f32 :=
  addf
    (Host.dotGeneral dot_S8192x2048_S2048x2048_S8192x2048_1_0_0_1_n_n none
      (shapeCast _ (transpose S4x2048x2048 [0, 2, 1] x transposes_S4x2048x2048_S4x2048x2048_0_2_1) shapeCasts_S4x2048x2048_S8192x2048)
      (transpose S2048x2048 [1, 0] W transposes_S2048x2048_S2048x2048_1_0))
    (broadcastInDim S8192x2048 ![0, 1] bcast_S1x2048_S8192x2048_0_1 (broadcastInDim S1x2048 ![1] bcast_S2048_S1x2048_1 b))

/-- The logits with the two groups on an axis of their own. -/
def grouped (l : FVec F S8192x2048 .f32) : FVec F S8192x2x1024 .f32 :=
  shapeCast _ l shapeCasts_S8192x2048_S8192x2x1024

/-- The index part of an argmax along some axes, at any shape. -/
def argIndex {s t u : Shape} {axes : List (Fin s.rank)} (h : s.ReducesTo axes t) (hu : 0 < u.numel) (y : FVec F s .f32)
    (z : IVec s 32) (ix : FVec F u .f32) (iy : IVec u 32) : IVec t 32 := fun j =>
  (Host.argReduce reducer_argmax_f32_i32 y z ix iy h hu j).2

/-- The index of each row's largest entry. -/
def argmax (y : FVec F S16384x1024 .f32) : IVec S16384 32 :=
  argIndex reducesTo_S16384x1024_S16384_d1 h_S_ y (iotaInDim S16384x1024 32 1) (constant S_ .f32 0xFF800000#32)
    (constantI S_ 32 0#32)

/-- The one-hot rows of a vector of indices. -/
def oneHot (k : IVec S16384 32) : FVec F S16384x1024 .f32 :=
  uitofp .f32 (cmpi .eq
    (broadcastInDim S16384x1024 ![0, 1] bcast_S16384x1_S16384x1024_0_1 (broadcastInDim S16384x1 ![0] bcast_S16384_S16384x1_0 k))
    (broadcastInDim S16384x1024 ![0, 1] bcast_S1x1024_S16384x1024_0_1 (iotaInDim S1x1024 32 1)))

/-- The hard assignment: for each token and group the one-hot vector of the largest logit. -/
def hard (l : FVec F S8192x2048 .f32) : FVec F S8192x2x1024 .f32 :=
  shapeCast _ (oneHot (argmax (shapeCast _ l shapeCasts_S8192x2048_S16384x1024))) shapeCasts_S16384x1024_S8192x2x1024

/-- The shifted exponentials of the last axis. -/
def shiftedExp (y : FVec F S8192x2x1024 .f32) : FVec F S8192x2x1024 .f32 :=
  Host.exp (subf y (broadcastInDim S8192x2x1024 ![0, 1, 2] bcast_S8192x2x1_S8192x2x1024_0_1_2
    (broadcastInDim S8192x2x1 ![0, 1] bcast_S8192x2_S8192x2x1_0_1
      (maximumf (broadcastInDim S8192x2 ![] bcast_S_S8192x2 (constant S_ .f32 0xFF800000#32))
        (Host.reduce FloatOps.maximumf y (constant S_ .f32 0xFF800000#32) reducesTo_S8192x2x1024_S8192x2_d2 h_S_)))))

/-- The softmax along the last axis. -/
def softmax (y : FVec F S8192x2x1024 .f32) : FVec F S8192x2x1024 .f32 :=
  Host.divf (shiftedExp y) (broadcastInDim S8192x2x1024 ![0, 1, 2] bcast_S8192x2x1_S8192x2x1024_0_1_2
    (broadcastInDim S8192x2x1 ![0, 1] bcast_S8192x2_S8192x2x1_0_1
      (Host.reduceAdd (shiftedExp y) (constant S_ .f32 0x00000000#32) reducesTo_S8192x2x1024_S8192x2_d2 h_S_)))

/-- The mean over the tokens. -/
def tokenMean (y : FVec F S8192x2x1024 .f32) : FVec F S2x1024 .f32 :=
  Host.divf (Host.reduceAdd y (constant S_ .f32 0x00000000#32) reducesTo_S8192x2x1024_S2x1024_d0 h_S_)
    (broadcastInDim S2x1024 ![] bcast_S_S2x1024 (constant S_ .f32 0x46000000#32))

/-- The sum over the groups of the exponential of the entropy of each row. -/
def perplexity (p : FVec F S2x1024 .f32) : FVec F S_ .f32 :=
  Host.reduceAdd (Host.exp (Host.negf
    (Host.reduceAdd (mulf p (Host.log (addf p (broadcastInDim S2x1024 ![] bcast_S_S2x1024 (constant S_ .f32 0x33D6BF95#32)))))
      (constant S_ .f32 0x00000000#32) reducesTo_S2x1024_S2_d1 h_S_)))
    (constant S_ .f32 0x00000000#32) reducesTo_S2_S_d0 h_S_

/-- The third result: the perplexity of the hard assignment's mean. -/
def codePerplexity (x : FVec F S4x2048x2048 .f32) (W : FVec F S2048x2048 .f32) (b : FVec F S2048 .f32) : FVec F S_ .f32 :=
  perplexity (tokenMean (hard (logits x W b)))

/-- The fourth result: the perplexity of the softmax's mean. -/
def probPerplexity (x : FVec F S4x2048x2048 .f32) (W : FVec F S2048x2048 .f32) (b : FVec F S2048 .f32) : FVec F S_ .f32 :=
  perplexity (tokenMean (softmax (grouped (logits x W b))))

/-- The second result: how far the fourth stays below the number of codes, as a share of it. -/
def diversity (x : FVec F S4x2048x2048 .f32) (W : FVec F S2048x2048 .f32) (b : FVec F S2048 .f32) : FVec F S_ .f32 :=
  Host.divf (subf (constant S_ .f32 0x45000000#32) (probPerplexity x W b)) (constant S_ .f32 0x45000000#32)

/-- The softmax at temperature two. -/
def soft (l : FVec F S8192x2048 .f32) : FVec F S8192x2x1024 .f32 :=
  softmax (Host.divf (grouped l) (broadcastInDim S8192x2x1024 ![] bcast_S_S8192x2x1024 (constant S_ .f32 0x40000000#32)))

/-- The straight-through assignment: the hard one plus the soft one less the soft one. -/
def straight (l : FVec F S8192x2048 .f32) : FVec F S8192x2x1024 .f32 :=
  subf (addf (hard l) (soft l)) (soft l)

/-- The codebook's rows weighted by an assignment, laid out with the code axis before the time axis. -/
def combine (h : FVec F S8192x2x1024 .f32) (C : FVec F S1x2x1024x256 .f32) : FVec F S4x512x2048 .f32 :=
  transpose S4x512x2048 [0, 2, 1]
    (shapeCast _ (transpose S8192x2x256 [2, 0, 1]
      (Host.dotGeneral dot_S2x1024x256_S8192x2x1024_S2x256x8192_1_2_2_0_0_1 none
        (shapeCast _ C shapeCasts_S1x2x1024x256_S2x1024x256) h)
      transposes_S2x256x8192_S8192x2x256_2_0_1) shapeCasts_S8192x2x256_S4x2048x512)
    transposes_S4x2048x512_S4x512x2048_0_2_1

/-- The first result: the codebook's rows weighted by the straight-through assignment. -/
def quantised (x : FVec F S4x2048x2048 .f32) (W : FVec F S2048x2048 .f32) (b : FVec F S2048 .f32) (C : FVec F S1x2x1024x256 .f32) :
    FVec F S4x512x2048 .f32 :=
  combine (straight (logits x W b)) C

end VQ.Ref

end
-- ==== Proof.RefRun.lean ====
/-
  The reference program as a list of its host operations, and its run: every execution ends with each
  result at the value `Proof/RefVals.lean` names and with the arguments unchanged.
-/
module

public import proofs.«01_k».proof.Proof.Gen.ReferenceIdeal
public import proofs.«01_k».proof.Proof.RefVals
public import Idealize.ShloMosaic.Lib.StableHlo.Run

@[expose] public section

noncomputable section

namespace VQ.Ref

open Cert.ReferenceIdeal Cert.ReferenceIdeal.Gen Idealize.ShloMosaic Idealize.ShloMosaic.TcCoe Idealize.SL.Sem Idealize.ShloMosaic.StableHlo

variable {F : FTy → Type} [FloatOps F]

/-- The reference's operations in order; those of a called function stand in the place of the call. -/
abbrev opList : List (HloOp τ sig (Elt F)) :=
  [ unary main_arg0 main_v0 ((transpose S4x2048x2048 [0, 2, 1] · transposes_S4x2048x2048_S4x2048x2048_0_2_1) : (⟨S4x2048x2048, .f32⟩ : BufTy).Contents (Elt F) → (⟨S4x2048x2048, .f32⟩ : BufTy).Contents (Elt F)),
    reshape main_v0 main_v1 (rfl : (.f32 : EltTy) = .f32) shapeCasts_S4x2048x2048_S8192x2048,
    unary main_arg1 main_v2 ((transpose S2048x2048 [1, 0] · transposes_S2048x2048_S2048x2048_1_0) : (⟨S2048x2048, .f32⟩ : BufTy).Contents (Elt F) → (⟨S2048x2048, .f32⟩ : BufTy).Contents (Elt F)),
    binary main_v1 main_v2 main_v3 ((fun l r => Host.dotGeneral dot_S8192x2048_S2048x2048_S8192x2048_1_0_0_1_n_n none l r) : (⟨S8192x2048, .f32⟩ : BufTy).Contents (Elt F) → (⟨S2048x2048, .f32⟩ : BufTy).Contents (Elt F) → (⟨S8192x2048, .f32⟩ : BufTy).Contents (Elt F)),
    unary main_arg2 main_v4 (broadcastInDim S1x2048 ![1] bcast_S2048_S1x2048_1 : (⟨S2048, .f32⟩ : BufTy).Contents (Elt F) → (⟨S1x2048, .f32⟩ : BufTy).Contents (Elt F)),
    unary main_v4 main_v5 (broadcastInDim S8192x2048 ![0, 1] bcast_S1x2048_S8192x2048_0_1 : (⟨S1x2048, .f32⟩ : BufTy).Contents (Elt F) → (⟨S8192x2048, .f32⟩ : BufTy).Contents (Elt F)),
    binary main_v3 main_v5 main_v6 (addf : (⟨S8192x2048, .f32⟩ : BufTy).Contents (Elt F) → (⟨S8192x2048, .f32⟩ : BufTy).Contents (Elt F) → (⟨S8192x2048, .f32⟩ : BufTy).Contents (Elt F)),
    reshape main_v6 main_v7 (rfl : (.f32 : EltTy) = .f32) shapeCasts_S8192x2048_S16384x1024,
    TRef.nullary (TRef.of (T := ⟨S16384x1024, .i32⟩) main_call0_v0) (iotaInDim S16384x1024 32 1),
    TRef.nullary (TRef.of (T := ⟨S_, .f32⟩) main_call0_cst) (constant S_ .f32 0xFF800000#32),
    TRef.nullary (TRef.of (T := ⟨S_, .i32⟩) main_call0_c) (constantI S_ 32 0#32),
    TRef.quaternary (TRef.of (T := ⟨S16384x1024, .f32⟩) main_v7) (TRef.of (T := ⟨S16384x1024, .i32⟩) main_call0_v0) (TRef.of (T := ⟨S_, .f32⟩) main_call0_cst) (TRef.of (T := ⟨S_, .i32⟩) main_call0_c) (TRef.of (T := ⟨S16384, .f32⟩) main_call0_v1_0) (fun x y u v j => (Host.argReduce reducer_argmax_f32_i32 x y u v reducesTo_S16384x1024_S16384_d1 h_S_ j).1),
    TRef.quaternary (TRef.of (T := ⟨S16384x1024, .f32⟩) main_v7) (TRef.of (T := ⟨S16384x1024, .i32⟩) main_call0_v0) (TRef.of (T := ⟨S_, .f32⟩) main_call0_cst) (TRef.of (T := ⟨S_, .i32⟩) main_call0_c) (TRef.of (T := ⟨S16384, .i32⟩) main_v8) (fun x y u v j => (Host.argReduce reducer_argmax_f32_i32 x y u v reducesTo_S16384x1024_S16384_d1 h_S_ j).2),
    TRef.unary (TRef.of (T := ⟨S16384, .i32⟩) main_v8) (TRef.of (T := ⟨S16384x1, .i32⟩) main_call1_v0) (broadcastInDim S16384x1 ![0] bcast_S16384_S16384x1_0),
    TRef.nullary (TRef.of (T := ⟨S1x1024, .i32⟩) main_call1_v1) (iotaInDim S1x1024 32 1),
    TRef.unary (TRef.of (T := ⟨S16384x1, .i32⟩) main_call1_v0) (TRef.of (T := ⟨S16384x1024, .i32⟩) main_call1_v2) (broadcastInDim S16384x1024 ![0, 1] bcast_S16384x1_S16384x1024_0_1),
    TRef.unary (TRef.of (T := ⟨S1x1024, .i32⟩) main_call1_v1) (TRef.of (T := ⟨S16384x1024, .i32⟩) main_call1_v3) (broadcastInDim S16384x1024 ![0, 1] bcast_S1x1024_S16384x1024_0_1),
    TRef.binary (TRef.of (T := ⟨S16384x1024, .i32⟩) main_call1_v2) (TRef.of (T := ⟨S16384x1024, .i32⟩) main_call1_v3) (TRef.of (T := ⟨S16384x1024, .i1⟩) main_call1_v4) (cmpi .eq),
    TRef.unary (TRef.of (T := ⟨S16384x1024, .i1⟩) main_call1_v4) (TRef.of (T := ⟨S16384x1024, .f32⟩) main_v9) (uitofp .f32),
    reshape main_v9 main_v10 (rfl : (.f32 : EltTy) = .f32) shapeCasts_S16384x1024_S8192x2x1024,
    nullary main_cst (constant S_ .f32 0x00000000#32),
    binary main_v10 main_cst main_v11 ((fun x v => Host.reduceAdd x v reducesTo_S8192x2x1024_S2x1024_d0 h_S_) : (⟨S8192x2x1024, .f32⟩ : BufTy).Contents (Elt F) → (⟨S_, .f32⟩ : BufTy).Contents (Elt F) → (⟨S2x1024, .f32⟩ : BufTy).Contents (Elt F)),
    nullary main_cst_0 (constant S_ .f32 0x46000000#32),
    unary main_cst_0 main_v12 (broadcastInDim S2x1024 ![] bcast_S_S2x1024 : (⟨S_, .f32⟩ : BufTy).Contents (Elt F) → (⟨S2x1024, .f32⟩ : BufTy).Contents (Elt F)),
    binary main_v11 main_v12 main_v13 (Host.divf : (⟨S2x1024, .f32⟩ : BufTy).Contents (Elt F) → (⟨S2x1024, .f32⟩ : BufTy).Contents (Elt F) → (⟨S2x1024, .f32⟩ : BufTy).Contents (Elt F)),
    nullary main_cst_1 (constant S_ .f32 0x33D6BF95#32),
    unary main_cst_1 main_v14 (broadcastInDim S2x1024 ![] bcast_S_S2x1024 : (⟨S_, .f32⟩ : BufTy).Contents (Elt F) → (⟨S2x1024, .f32⟩ : BufTy).Contents (Elt F)),
    binary main_v13 main_v14 main_v15 (addf : (⟨S2x1024, .f32⟩ : BufTy).Contents (Elt F) → (⟨S2x1024, .f32⟩ : BufTy).Contents (Elt F) → (⟨S2x1024, .f32⟩ : BufTy).Contents (Elt F)),
    unary main_v15 main_v16 (Host.log : (⟨S2x1024, .f32⟩ : BufTy).Contents (Elt F) → (⟨S2x1024, .f32⟩ : BufTy).Contents (Elt F)),
    binary main_v13 main_v16 main_v17 (mulf : (⟨S2x1024, .f32⟩ : BufTy).Contents (Elt F) → (⟨S2x1024, .f32⟩ : BufTy).Contents (Elt F) → (⟨S2x1024, .f32⟩ : BufTy).Contents (Elt F)),
    nullary main_cst_2 (constant S_ .f32 0x00000000#32),
    binary main_v17 main_cst_2 main_v18 ((fun x v => Host.reduceAdd x v reducesTo_S2x1024_S2_d1 h_S_) : (⟨S2x1024, .f32⟩ : BufTy).Contents (Elt F) → (⟨S_, .f32⟩ : BufTy).Contents (Elt F) → (⟨S2, .f32⟩ : BufTy).Contents (Elt F)),
    unary main_v18 main_v19 (Host.negf : (⟨S2, .f32⟩ : BufTy).Contents (Elt F) → (⟨S2, .f32⟩ : BufTy).Contents (Elt F)),
    unary main_v19 main_v20 (Host.exp : (⟨S2, .f32⟩ : BufTy).Contents (Elt F) → (⟨S2, .f32⟩ : BufTy).Contents (Elt F)),
    nullary main_cst_3 (constant S_ .f32 0x00000000#32),
    binary main_v20 main_cst_3 main_v21 ((fun x v => Host.reduceAdd x v reducesTo_S2_S_d0 h_S_) : (⟨S2, .f32⟩ : BufTy).Contents (Elt F) → (⟨S_, .f32⟩ : BufTy).Contents (Elt F) → (⟨S_, .f32⟩ : BufTy).Contents (Elt F)),
    reshape main_v6 main_v22 (rfl : (.f32 : EltTy) = .f32) shapeCasts_S8192x2048_S8192x2x1024,
    nullary main_cst_4 (constant S_ .f32 0xFF800000#32),
    binary main_v22 main_cst_4 main_v23 ((fun x v => Host.reduce FloatOps.maximumf x v reducesTo_S8192x2x1024_S8192x2_d2 h_S_) : (⟨S8192x2x1024, .f32⟩ : BufTy).Contents (Elt F) → (⟨S_, .f32⟩ : BufTy).Contents (Elt F) → (⟨S8192x2, .f32⟩ : BufTy).Contents (Elt F)),
    nullary main_cst_5 (constant S_ .f32 0xFF800000#32),
    unary main_cst_5 main_v24 (broadcastInDim S8192x2 ![] bcast_S_S8192x2 : (⟨S_, .f32⟩ : BufTy).Contents (Elt F) → (⟨S8192x2, .f32⟩ : BufTy).Contents (Elt F)),
    binary main_v24 main_v23 main_v25 (maximumf : (⟨S8192x2, .f32⟩ : BufTy).Contents (Elt F) → (⟨S8192x2, .f32⟩ : BufTy).Contents (Elt F) → (⟨S8192x2, .f32⟩ : BufTy).Contents (Elt F)),
    unary main_v25 main_v26 (broadcastInDim S8192x2x1 ![0, 1] bcast_S8192x2_S8192x2x1_0_1 : (⟨S8192x2, .f32⟩ : BufTy).Contents (Elt F) → (⟨S8192x2x1, .f32⟩ : BufTy).Contents (Elt F)),
    unary main_v26 main_v27 (broadcastInDim S8192x2x1024 ![0, 1, 2] bcast_S8192x2x1_S8192x2x1024_0_1_2 : (⟨S8192x2x1, .f32⟩ : BufTy).Contents (Elt F) → (⟨S8192x2x1024, .f32⟩ : BufTy).Contents (Elt F)),
    binary main_v22 main_v27 main_v28 (subf : (⟨S8192x2x1024, .f32⟩ : BufTy).Contents (Elt F) → (⟨S8192x2x1024, .f32⟩ : BufTy).Contents (Elt F) → (⟨S8192x2x1024, .f32⟩ : BufTy).Contents (Elt F)),
    unary main_v28 main_v29 (Host.exp : (⟨S8192x2x1024, .f32⟩ : BufTy).Contents (Elt F) → (⟨S8192x2x1024, .f32⟩ : BufTy).Contents (Elt F)),
    nullary main_cst_6 (constant S_ .f32 0x00000000#32),
    binary main_v29 main_cst_6 main_v30 ((fun x v => Host.reduceAdd x v reducesTo_S8192x2x1024_S8192x2_d2 h_S_) : (⟨S8192x2x1024, .f32⟩ : BufTy).Contents (Elt F) → (⟨S_, .f32⟩ : BufTy).Contents (Elt F) → (⟨S8192x2, .f32⟩ : BufTy).Contents (Elt F)),
    unary main_v30 main_v31 (broadcastInDim S8192x2x1 ![0, 1] bcast_S8192x2_S8192x2x1_0_1 : (⟨S8192x2, .f32⟩ : BufTy).Contents (Elt F) → (⟨S8192x2x1, .f32⟩ : BufTy).Contents (Elt F)),
    unary main_v31 main_v32 (broadcastInDim S8192x2x1024 ![0, 1, 2] bcast_S8192x2x1_S8192x2x1024_0_1_2 : (⟨S8192x2x1, .f32⟩ : BufTy).Contents (Elt F) → (⟨S8192x2x1024, .f32⟩ : BufTy).Contents (Elt F)),
    binary main_v29 main_v32 main_v33 (Host.divf : (⟨S8192x2x1024, .f32⟩ : BufTy).Contents (Elt F) → (⟨S8192x2x1024, .f32⟩ : BufTy).Contents (Elt F) → (⟨S8192x2x1024, .f32⟩ : BufTy).Contents (Elt F)),
    nullary main_cst_7 (constant S_ .f32 0x00000000#32),
    binary main_v33 main_cst_7 main_v34 ((fun x v => Host.reduceAdd x v reducesTo_S8192x2x1024_S2x1024_d0 h_S_) : (⟨S8192x2x1024, .f32⟩ : BufTy).Contents (Elt F) → (⟨S_, .f32⟩ : BufTy).Contents (Elt F) → (⟨S2x1024, .f32⟩ : BufTy).Contents (Elt F)),
    nullary main_cst_8 (constant S_ .f32 0x46000000#32),
    unary main_cst_8 main_v35 (broadcastInDim S2x1024 ![] bcast_S_S2x1024 : (⟨S_, .f32⟩ : BufTy).Contents (Elt F) → (⟨S2x1024, .f32⟩ : BufTy).Contents (Elt F)),
    binary main_v34 main_v35 main_v36 (Host.divf : (⟨S2x1024, .f32⟩ : BufTy).Contents (Elt F) → (⟨S2x1024, .f32⟩ : BufTy).Contents (Elt F) → (⟨S2x1024, .f32⟩ : BufTy).Contents (Elt F)),
    nullary main_cst_9 (constant S_ .f32 0x33D6BF95#32),
    unary main_cst_9 main_v37 (broadcastInDim S2x1024 ![] bcast_S_S2x1024 : (⟨S_, .f32⟩ : BufTy).Contents (Elt F) → (⟨S2x1024, .f32⟩ : BufTy).Contents (Elt F)),
    binary main_v36 main_v37 main_v38 (addf : (⟨S2x1024, .f32⟩ : BufTy).Contents (Elt F) → (⟨S2x1024, .f32⟩ : BufTy).Contents (Elt F) → (⟨S2x1024, .f32⟩ : BufTy).Contents (Elt F)),
    unary main_v38 main_v39 (Host.log : (⟨S2x1024, .f32⟩ : BufTy).Contents (Elt F) → (⟨S2x1024, .f32⟩ : BufTy).Contents (Elt F)),
    binary main_v36 main_v39 main_v40 (mulf : (⟨S2x1024, .f32⟩ : BufTy).Contents (Elt F) → (⟨S2x1024, .f32⟩ : BufTy).Contents (Elt F) → (⟨S2x1024, .f32⟩ : BufTy).Contents (Elt F)),
    nullary main_cst_10 (constant S_ .f32 0x00000000#32),
    binary main_v40 main_cst_10 main_v41 ((fun x v => Host.reduceAdd x v reducesTo_S2x1024_S2_d1 h_S_) : (⟨S2x1024, .f32⟩ : BufTy).Contents (Elt F) → (⟨S_, .f32⟩ : BufTy).Contents (Elt F) → (⟨S2, .f32⟩ : BufTy).Contents (Elt F)),
    unary main_v41 main_v42 (Host.negf : (⟨S2, .f32⟩ : BufTy).Contents (Elt F) → (⟨S2, .f32⟩ : BufTy).Contents (Elt F)),
    unary main_v42 main_v43 (Host.exp : (⟨S2, .f32⟩ : BufTy).Contents (Elt F) → (⟨S2, .f32⟩ : BufTy).Contents (Elt F)),
    nullary main_cst_11 (constant S_ .f32 0x00000000#32),
    binary main_v43 main_cst_11 main_v44 ((fun x v => Host.reduceAdd x v reducesTo_S2_S_d0 h_S_) : (⟨S2, .f32⟩ : BufTy).Contents (Elt F) → (⟨S_, .f32⟩ : BufTy).Contents (Elt F) → (⟨S_, .f32⟩ : BufTy).Contents (Elt F)),
    reshape main_v6 main_v45 (rfl : (.f32 : EltTy) = .f32) shapeCasts_S8192x2048_S8192x2x1024,
    nullary main_cst_12 (constant S_ .f32 0x40000000#32),
    unary main_cst_12 main_v46 (broadcastInDim S8192x2x1024 ![] bcast_S_S8192x2x1024 : (⟨S_, .f32⟩ : BufTy).Contents (Elt F) → (⟨S8192x2x1024, .f32⟩ : BufTy).Contents (Elt F)),
    binary main_v45 main_v46 main_v47 (Host.divf : (⟨S8192x2x1024, .f32⟩ : BufTy).Contents (Elt F) → (⟨S8192x2x1024, .f32⟩ : BufTy).Contents (Elt F) → (⟨S8192x2x1024, .f32⟩ : BufTy).Contents (Elt F)),
    nullary main_cst_13 (constant S_ .f32 0xFF800000#32),
    binary main_v47 main_cst_13 main_v48 ((fun x v => Host.reduce FloatOps.maximumf x v reducesTo_S8192x2x1024_S8192x2_d2 h_S_) : (⟨S8192x2x1024, .f32⟩ : BufTy).Contents (Elt F) → (⟨S_, .f32⟩ : BufTy).Contents (Elt F) → (⟨S8192x2, .f32⟩ : BufTy).Contents (Elt F)),
    nullary main_cst_14 (constant S_ .f32 0xFF800000#32),
    unary main_cst_14 main_v49 (broadcastInDim S8192x2 ![] bcast_S_S8192x2 : (⟨S_, .f32⟩ : BufTy).Contents (Elt F) → (⟨S8192x2, .f32⟩ : BufTy).Contents (Elt F)),
    binary main_v49 main_v48 main_v50 (maximumf : (⟨S8192x2, .f32⟩ : BufTy).Contents (Elt F) → (⟨S8192x2, .f32⟩ : BufTy).Contents (Elt F) → (⟨S8192x2, .f32⟩ : BufTy).Contents (Elt F)),
    unary main_v50 main_v51 (broadcastInDim S8192x2x1 ![0, 1] bcast_S8192x2_S8192x2x1_0_1 : (⟨S8192x2, .f32⟩ : BufTy).Contents (Elt F) → (⟨S8192x2x1, .f32⟩ : BufTy).Contents (Elt F)),
    unary main_v51 main_v52 (broadcastInDim S8192x2x1024 ![0, 1, 2] bcast_S8192x2x1_S8192x2x1024_0_1_2 : (⟨S8192x2x1, .f32⟩ : BufTy).Contents (Elt F) → (⟨S8192x2x1024, .f32⟩ : BufTy).Contents (Elt F)),
    binary main_v47 main_v52 main_v53 (subf : (⟨S8192x2x1024, .f32⟩ : BufTy).Contents (Elt F) → (⟨S8192x2x1024, .f32⟩ : BufTy).Contents (Elt F) → (⟨S8192x2x1024, .f32⟩ : BufTy).Contents (Elt F)),
    unary main_v53 main_v54 (Host.exp : (⟨S8192x2x1024, .f32⟩ : BufTy).Contents (Elt F) → (⟨S8192x2x1024, .f32⟩ : BufTy).Contents (Elt F)),
    nullary main_cst_15 (constant S_ .f32 0x00000000#32),
    binary main_v54 main_cst_15 main_v55 ((fun x v => Host.reduceAdd x v reducesTo_S8192x2x1024_S8192x2_d2 h_S_) : (⟨S8192x2x1024, .f32⟩ : BufTy).Contents (Elt F) → (⟨S_, .f32⟩ : BufTy).Contents (Elt F) → (⟨S8192x2, .f32⟩ : BufTy).Contents (Elt F)),
    unary main_v55 main_v56 (broadcastInDim S8192x2x1 ![0, 1] bcast_S8192x2_S8192x2x1_0_1 : (⟨S8192x2, .f32⟩ : BufTy).Contents (Elt F) → (⟨S8192x2x1, .f32⟩ : BufTy).Contents (Elt F)),
    unary main_v56 main_v57 (broadcastInDim S8192x2x1024 ![0, 1, 2] bcast_S8192x2x1_S8192x2x1024_0_1_2 : (⟨S8192x2x1, .f32⟩ : BufTy).Contents (Elt F) → (⟨S8192x2x1024, .f32⟩ : BufTy).Contents (Elt F)),
    binary main_v54 main_v57 main_v58 (Host.divf : (⟨S8192x2x1024, .f32⟩ : BufTy).Contents (Elt F) → (⟨S8192x2x1024, .f32⟩ : BufTy).Contents (Elt F) → (⟨S8192x2x1024, .f32⟩ : BufTy).Contents (Elt F)),
    binary main_v10 main_v58 main_v59 (addf : (⟨S8192x2x1024, .f32⟩ : BufTy).Contents (Elt F) → (⟨S8192x2x1024, .f32⟩ : BufTy).Contents (Elt F) → (⟨S8192x2x1024, .f32⟩ : BufTy).Contents (Elt F)),
    binary main_v59 main_v58 main_v60 (subf : (⟨S8192x2x1024, .f32⟩ : BufTy).Contents (Elt F) → (⟨S8192x2x1024, .f32⟩ : BufTy).Contents (Elt F) → (⟨S8192x2x1024, .f32⟩ : BufTy).Contents (Elt F)),
    reshape main_arg3 main_v61 (rfl : (.f32 : EltTy) = .f32) shapeCasts_S1x2x1024x256_S2x1024x256,
    binary main_v61 main_v60 main_v62 ((fun l r => Host.dotGeneral dot_S2x1024x256_S8192x2x1024_S2x256x8192_1_2_2_0_0_1 none l r) : (⟨S2x1024x256, .f32⟩ : BufTy).Contents (Elt F) → (⟨S8192x2x1024, .f32⟩ : BufTy).Contents (Elt F) → (⟨S2x256x8192, .f32⟩ : BufTy).Contents (Elt F)),
    unary main_v62 main_v63 ((transpose S8192x2x256 [2, 0, 1] · transposes_S2x256x8192_S8192x2x256_2_0_1) : (⟨S2x256x8192, .f32⟩ : BufTy).Contents (Elt F) → (⟨S8192x2x256, .f32⟩ : BufTy).Contents (Elt F)),
    reshape main_v63 main_v64 (rfl : (.f32 : EltTy) = .f32) shapeCasts_S8192x2x256_S4x2048x512,
    unary main_v64 main_v65 ((transpose S4x512x2048 [0, 2, 1] · transposes_S4x2048x512_S4x512x2048_0_2_1) : (⟨S4x2048x512, .f32⟩ : BufTy).Contents (Elt F) → (⟨S4x512x2048, .f32⟩ : BufTy).Contents (Elt F)),
    nullary main_cst_16 (constant S_ .f32 0x45000000#32),
    binary main_cst_16 main_v44 main_v66 (subf : (⟨S_, .f32⟩ : BufTy).Contents (Elt F) → (⟨S_, .f32⟩ : BufTy).Contents (Elt F) → (⟨S_, .f32⟩ : BufTy).Contents (Elt F)),
    nullary main_cst_17 (constant S_ .f32 0x45000000#32),
    binary main_v66 main_cst_17 main_v67 (Host.divf : (⟨S_, .f32⟩ : BufTy).Contents (Elt F) → (⟨S_, .f32⟩ : BufTy).Contents (Elt F) → (⟨S_, .f32⟩ : BufTy).Contents (Elt F)) ]

set_option maxRecDepth 8192 in
set_option maxHeartbeats 4000000 in
/-- The printed program is the sequence of these operations. -/
theorem main_seq (c : Dev nD) : main (F := F) c = seq opList := rfl

/-- The program scopes no buffer. -/
theorem no_scoped_refs : (Finset.univ.filter fun b : Ref sig .tc => b.isScoped) = ∅ := by decide

/-- The program scopes no semaphore. -/
theorem no_scoped_sems : (Finset.univ.filter fun sm : SemLoc sig => sm.isScoped .tc) = ∅ := by decide

set_option maxRecDepth 8192 in
/-- Every operation's buffers are buffers of the program. -/
theorem opList_sub : (opList : List (HloOp τ sig (Elt F))).Forall fun op => op.bufs ⊆ tcRefs τ sig :=
  ⟨unary_bufs_sub .., reshape_bufs_sub .., unary_bufs_sub .., binary_bufs_sub .., unary_bufs_sub .., unary_bufs_sub .., binary_bufs_sub .., reshape_bufs_sub .., nullary_bufs_sub .., nullary_bufs_sub .., nullary_bufs_sub .., quaternary_bufs_sub .., quaternary_bufs_sub .., unary_bufs_sub .., nullary_bufs_sub .., unary_bufs_sub .., unary_bufs_sub .., binary_bufs_sub .., unary_bufs_sub .., reshape_bufs_sub .., nullary_bufs_sub .., binary_bufs_sub .., nullary_bufs_sub .., unary_bufs_sub .., binary_bufs_sub .., nullary_bufs_sub .., unary_bufs_sub .., binary_bufs_sub .., unary_bufs_sub .., binary_bufs_sub .., nullary_bufs_sub .., binary_bufs_sub .., unary_bufs_sub .., unary_bufs_sub .., nullary_bufs_sub .., binary_bufs_sub .., reshape_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., nullary_bufs_sub .., binary_bufs_sub .., nullary_bufs_sub .., unary_bufs_sub .., binary_bufs_sub .., nullary_bufs_sub .., unary_bufs_sub .., binary_bufs_sub .., unary_bufs_sub .., binary_bufs_sub .., nullary_bufs_sub .., binary_bufs_sub .., unary_bufs_sub .., unary_bufs_sub .., nullary_bufs_sub .., binary_bufs_sub .., reshape_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., binary_bufs_sub .., reshape_bufs_sub .., binary_bufs_sub .., unary_bufs_sub .., reshape_bufs_sub .., unary_bufs_sub .., nullary_bufs_sub .., binary_bufs_sub .., nullary_bufs_sub .., binary_bufs_sub ..⟩

set_option maxRecDepth 8192 in
set_option maxHeartbeats 40000000 in
/-- From any memory with zero counters, every execution of the reference ends with its four results at the
    named functions of its arguments, and with its arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v65) = quantised (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v67) = diversity (m ((c.tc : Thread nD τ).loc main_arg0)) (m ((c.tc : Thread nD τ).loc main_arg1)) (m ((c.tc : Thread nD τ).loc main_arg2))
      ∧ r.2.mem ((c.tc : Thread nD τ).loc main_v21) = codePerplexity (m ((c.tc : Thread nD τ).loc main_arg0)) (m ((c.tc : Thread nD τ).loc main_arg1)) (m ((c.tc : Thread nD τ).loc main_arg2))
      ∧ r.2.mem ((c.tc : Thread nD τ).loc main_v44) = probPerplexity (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v65).trans (by simp only [opList, TRef.quaternary, TRef.binary, TRef.nullary, TRef.unary, TRef.toBuf, TRef.ofBuf, cast_eq]; after_results_simp <;> rfl),
      (h c main_v67).trans (by simp only [opList, TRef.quaternary, TRef.binary, TRef.nullary, TRef.unary, TRef.toBuf, TRef.ofBuf, cast_eq]; after_results_simp <;> rfl),
      (h c main_v21).trans (by simp only [opList, TRef.quaternary, TRef.binary, TRef.nullary, TRef.unary, TRef.toBuf, TRef.ofBuf, cast_eq]; after_results_simp <;> rfl),
      (h c main_v44).trans (by simp only [opList, TRef.quaternary, TRef.binary, TRef.nullary, TRef.unary, TRef.toBuf, TRef.ofBuf, cast_eq]; after_results_simp <;> rfl),
      (h c main_arg0).trans (by simp only [opList, TRef.quaternary, TRef.binary, TRef.nullary, TRef.unary, TRef.toBuf, TRef.ofBuf, cast_eq]; after_results_simp <;> rfl),
      (h c main_arg1).trans (by simp only [opList, TRef.quaternary, TRef.binary, TRef.nullary, TRef.unary, TRef.toBuf, TRef.ofBuf, cast_eq]; after_results_simp <;> rfl),
      (h c main_arg2).trans (by simp only [opList, TRef.quaternary, TRef.binary, TRef.nullary, TRef.unary, TRef.toBuf, TRef.ofBuf, cast_eq]; after_results_simp <;> rfl),
      (h c main_arg3).trans (by simp only [opList, TRef.quaternary, TRef.binary, TRef.nullary, TRef.unary, TRef.toBuf, TRef.ofBuf, cast_eq]; after_results_simp <;> rfl)⟩)
    (run_seq no_scoped_refs no_scoped_sems defs main (fun _ => opList) main_seq (fun _ => opList_sub) m ρ)

end VQ.Ref

end
-- ==== Proof.KernelBlocks.lean ====
/-
  What one grid point of the kernel leaves in each of its output blocks, in terms of the values it reads:
  the pieces the run of each case stores, read back.
-/
module

public import proofs.«01_k».proof.Proof.Gen.KernelIdeal.Frame
public import Idealize.ShloMosaic.Lib.Pipeline.Value
public import Idealize.ShloMosaic.Lib.Tactic

@[expose] public section

set_option maxRecDepth 16384

noncomputable section

namespace VQ.Ker

open Cert.KernelIdeal Cert.KernelIdeal.Gen Idealize.ShloMosaic Idealize.ShloMosaic.TcCoe Idealize.SL.Sem

variable {F : FTy → Type} [FloatOps F]

/-- Two zero offsets. -/
theorem zero2 : (![0, 0] : Fin 2 → Nat) = fun _ => 0 := funext fun a => by fin_cases a <;> rfl
/-- Three zero offsets. -/
theorem zero3 : (![0, 0, 0] : Fin 3 → Nat) = fun _ => 0 := funext fun a => by fin_cases a <;> rfl

/-- The stores that fill the block of looked-up code vectors: group 1's 256 rows, then (earlier) group 0's. -/
abbrev lookupPieces (x : Vec F S1x2048x1024 .f32) (w : Vec F S2048x2048 .f32) (b : Vec F S2048x1 .f32) (cb : Vec F S2x256x1024 .f32) :
    List (View.Piece (Elt F) S1x512x1024 .f32) :=
  [⟨Rect.unit (s := S1x512x1024) ![0, 256, 0] S1x256x1024.size inb_S1x512x1024_S1x256x1024_0_256_0,
      k0_pay3 (k0_pay13 x w b) (View.ld cb (Rect.unit (s := S2x256x1024) ![1, 0, 0] S1x256x1024.size inb_S2x256x1024_S1x256x1024_1_0_0))⟩,
    ⟨Rect.unit (s := S1x512x1024) ![0, 0, 0] S1x256x1024.size inb_S1x512x1024_S1x256x1024_0_0_0,
      k0_pay2 (k0_pay13 x w b) (View.ld cb (Rect.unit (s := S2x256x1024) ![0, 0, 0] S1x256x1024.size inb_S2x256x1024_S1x256x1024_0_0_0))⟩]

/-- The block of looked-up code vectors a point leaves. -/
def lookup (x : Vec F S1x2048x1024 .f32) (w : Vec F S2048x2048 .f32) (b : Vec F S2048x1 .f32) (cb : Vec F S2x256x1024 .f32) :
    Vec F S1x512x1024 .f32 := View.canon (lookupPieces x w b cb)

/-- The counts after a point, from the counts before it. -/
abbrev addCounts (x : Vec F S1x2048x1024 .f32) (w : Vec F S2048x2048 .f32) (b : Vec F S2048x1 .f32) (s : Vec F S2x1024 .f32) : Vec F S2x1024 .f32 :=
  k0_pay14 x w b s

/-- The sums of probabilities after a point, from those before it. -/
abbrev addProbs (x : Vec F S1x2048x1024 .f32) (w : Vec F S2048x2048 .f32) (b : Vec F S2048x1 .f32) (s : Vec F S2x1024 .f32) : Vec F S2x1024 .f32 :=
  k0_pay1 (k0_pay15 x w b) s

section

variable (c : Dev nD) (i : grid0.Coords) (a2 : Memref sig .tc .vmem S1x2048x1024 .f32) (h2 : a2.IsWhole) (a3 : Memref sig .tc .vmem S2048x2048 .f32) (h3 : a3.IsWhole) (a4 : Memref sig .tc .vmem S2048x1 .f32) (h4 : a4.IsWhole) (a5 : Memref sig .tc .vmem S2x256x1024 .f32) (h5 : a5.IsWhole) (a6 : Memref sig .tc .vmem S1x512x1024 .f32) (h6 : a6.IsWhole) (a7 : Memref sig .tc .vmem S1x1 .f32) (h7 : a7.IsWhole) (a8 : Memref sig .tc .vmem S1x1 .f32) (h8 : a8.IsWhole) (a9 : Memref sig .tc .vmem S1x1 .f32) (h9 : a9.IsWhole) (a10 : Memref sig .tc .vmem S2x1024 .f32) (h10 : a10.IsWhole) (a11 : Memref sig .tc .vmem S2x1024 .f32) (h11 : a11.IsWhole)
  (x : Vec F S1x2048x1024 .f32) (w : Vec F S2048x2048 .f32) (b : Vec F S2048x1 .f32) (cb : Vec F S2x256x1024 .f32) (s p : Vec F S2x1024 .f32)

/-- The first point leaves the looked-up code vectors. -/
theorem out_A_4 (hc0 : cond0_0 i) (hc1 : ¬cond0_1 i) :
    out0_A_4 c i a2 h2 a3 h3 a4 h4 a5 h5 a6 h6 a7 h7 a8 h8 a9 h9 a10 h10 a11 h11 hc0 hc1 x w b cb = lookup x w b cb := by
  unfold out0_A_4
  rw [View.read_writes_eq_canon _ _ _ (cover0_A_4 c i a2 h2 a3 h3 a4 h4 a5 h5 a6 h6 a7 h7 a8 h8 a9 h9 a10 h10 a11 h11 hc0 hc1 x w b cb)]
  unfold kernelRun0_A
  dsimp only
  sl_unfold_words
  simp only [View.readAt_eq_ld, h2.read_unread, h3.read_unread, h4.read_unread, h5.read_unread, h10.read_unread, h11.read_unread,
    View.ld_unit_zero (S := S2x1024) zero2, View.ld_unit_zero (S := S2048x2048) zero2, View.ld_unit_zero (S := S2048x1) zero2,
    View.ld_unit_zero (S := S1x2048x1024) zero3]
  rfl

/-- The first point leaves the counts, its own added. -/
theorem out_A_8 (hc0 : cond0_0 i) (hc1 : ¬cond0_1 i) :
    out0_A_8 c i a2 h2 a3 h3 a4 h4 a5 h5 a6 h6 a7 h7 a8 h8 a9 h9 a10 h10 a11 h11 hc0 hc1 x w b cb = addCounts x w b k0_pay9 := by
  unfold out0_A_8
  rw [View.read_writes_eq_canon _ _ _ (cover0_A_8 c i a2 h2 a3 h3 a4 h4 a5 h5 a6 h6 a7 h7 a8 h8 a9 h9 a10 h10 a11 h11 hc0 hc1 x w b cb)]
  unfold kernelRun0_A
  dsimp only
  sl_unfold_words
  rw [View.canon_cons_unit_zero (S := S2x1024) zero2]
  simp only [View.readAt_eq_ld, h2.read_unread, h3.read_unread, h4.read_unread, h5.read_unread, h10.read_unread, h11.read_unread,
    View.ld_unit_zero (S := S2x1024) zero2, View.ld_unit_zero (S := S2048x2048) zero2, View.ld_unit_zero (S := S2048x1) zero2,
    View.ld_unit_zero (S := S1x2048x1024) zero3,
    View.readCov_unit_zero (S := S2x1024) _ zero2]

/-- The first point leaves the sums of probabilities, its own added. -/
theorem out_A_9 (hc0 : cond0_0 i) (hc1 : ¬cond0_1 i) :
    out0_A_9 c i a2 h2 a3 h3 a4 h4 a5 h5 a6 h6 a7 h7 a8 h8 a9 h9 a10 h10 a11 h11 hc0 hc1 x w b cb = addProbs x w b k0_pay10 := by
  unfold out0_A_9
  rw [View.read_writes_eq_canon _ _ _ (cover0_A_9 c i a2 h2 a3 h3 a4 h4 a5 h5 a6 h6 a7 h7 a8 h8 a9 h9 a10 h10 a11 h11 hc0 hc1 x w b cb)]
  unfold kernelRun0_A
  dsimp only
  sl_unfold_words
  rw [View.canon_cons_unit_zero (S := S2x1024) zero2]
  simp only [View.readAt_eq_ld, h2.read_unread, h3.read_unread, h4.read_unread, h5.read_unread, h10.read_unread, h11.read_unread,
    View.ld_unit_zero (S := S2x1024) zero2, View.ld_unit_zero (S := S2048x2048) zero2, View.ld_unit_zero (S := S2048x1) zero2,
    View.ld_unit_zero (S := S1x2048x1024) zero3,
    View.readCov_unit_zero (S := S2x1024) _ zero2]

/-- A middle point leaves the looked-up code vectors. -/
theorem out_B_4 (hc0 : ¬cond0_0 i) (hc1 : ¬cond0_1 i) :
    out0_B_4 c i a2 h2 a3 h3 a4 h4 a5 h5 a6 h6 a7 h7 a8 h8 a9 h9 a10 h10 a11 h11 hc0 hc1 x w b cb s p = lookup x w b cb := by
  unfold out0_B_4
  rw [View.read_writes_eq_canon _ _ _ (cover0_B_4 c i a2 h2 a3 h3 a4 h4 a5 h5 a6 h6 a7 h7 a8 h8 a9 h9 a10 h10 a11 h11 hc0 hc1 x w b cb s p)]
  unfold kernelRun0_B
  dsimp only
  sl_unfold_words
  simp only [View.readAt_eq_ld, h2.read_unread, h3.read_unread, h4.read_unread, h5.read_unread, h10.read_unread, h11.read_unread,
    View.ld_unit_zero (S := S2x1024) zero2, View.ld_unit_zero (S := S2048x2048) zero2, View.ld_unit_zero (S := S2048x1) zero2,
    View.ld_unit_zero (S := S1x2048x1024) zero3]
  rfl

/-- A middle point leaves the counts, its own added. -/
theorem out_B_8 (hc0 : ¬cond0_0 i) (hc1 : ¬cond0_1 i) :
    out0_B_8 c i a2 h2 a3 h3 a4 h4 a5 h5 a6 h6 a7 h7 a8 h8 a9 h9 a10 h10 a11 h11 hc0 hc1 x w b cb s p = addCounts x w b s := by
  unfold out0_B_8
  rw [View.read_writes_eq_canon _ _ _ (cover0_B_8 c i a2 h2 a3 h3 a4 h4 a5 h5 a6 h6 a7 h7 a8 h8 a9 h9 a10 h10 a11 h11 hc0 hc1 x w b cb s p)]
  unfold kernelRun0_B
  dsimp only
  sl_unfold_words
  rw [View.canon_cons_unit_zero (S := S2x1024) zero2]
  simp only [View.readAt_eq_ld, h2.read_unread, h3.read_unread, h4.read_unread, h5.read_unread, h10.read_unread, h11.read_unread,
    View.ld_unit_zero (S := S2x1024) zero2, View.ld_unit_zero (S := S2048x2048) zero2, View.ld_unit_zero (S := S2048x1) zero2,
    View.ld_unit_zero (S := S1x2048x1024) zero3,
    View.readCov_unit_zero (S := S2x1024) _ zero2]

/-- A middle point leaves the sums of probabilities, its own added. -/
theorem out_B_9 (hc0 : ¬cond0_0 i) (hc1 : ¬cond0_1 i) :
    out0_B_9 c i a2 h2 a3 h3 a4 h4 a5 h5 a6 h6 a7 h7 a8 h8 a9 h9 a10 h10 a11 h11 hc0 hc1 x w b cb s p = addProbs x w b p := by
  unfold out0_B_9
  rw [View.read_writes_eq_canon _ _ _ (cover0_B_9 c i a2 h2 a3 h3 a4 h4 a5 h5 a6 h6 a7 h7 a8 h8 a9 h9 a10 h10 a11 h11 hc0 hc1 x w b cb s p)]
  unfold kernelRun0_B
  dsimp only
  sl_unfold_words
  rw [View.canon_cons_unit_zero (S := S2x1024) zero2]
  simp only [View.readAt_eq_ld, h2.read_unread, h3.read_unread, h4.read_unread, h5.read_unread, h10.read_unread, h11.read_unread,
    View.ld_unit_zero (S := S2x1024) zero2, View.ld_unit_zero (S := S2048x2048) zero2, View.ld_unit_zero (S := S2048x1) zero2,
    View.ld_unit_zero (S := S1x2048x1024) zero3,
    View.readCov_unit_zero (S := S2x1024) _ zero2]

/-- The last point leaves the looked-up code vectors. -/
theorem out_C_4 (hc0 : ¬cond0_0 i) (hc1 : cond0_1 i) :
    out0_C_4 c i a2 h2 a3 h3 a4 h4 a5 h5 a6 h6 a7 h7 a8 h8 a9 h9 a10 h10 a11 h11 hc0 hc1 x w b cb s p = lookup x w b cb := by
  unfold out0_C_4
  rw [View.read_writes_eq_canon _ _ _ (cover0_C_4 c i a2 h2 a3 h3 a4 h4 a5 h5 a6 h6 a7 h7 a8 h8 a9 h9 a10 h10 a11 h11 hc0 hc1 x w b cb s p)]
  unfold kernelRun0_C
  dsimp only
  sl_unfold_words
  simp only [View.readAt_eq_ld, h2.read_unread, h3.read_unread, h4.read_unread, h5.read_unread, h10.read_unread, h11.read_unread,
    View.ld_unit_zero (S := S2x1024) zero2, View.ld_unit_zero (S := S2048x2048) zero2, View.ld_unit_zero (S := S2048x1) zero2,
    View.ld_unit_zero (S := S1x2048x1024) zero3]
  rfl

/-- The last point leaves the diversity of the final sums. -/
theorem out_C_5 (hc0 : ¬cond0_0 i) (hc1 : cond0_1 i) :
    out0_C_5 c i a2 h2 a3 h3 a4 h4 a5 h5 a6 h6 a7 h7 a8 h8 a9 h9 a10 h10 a11 h11 hc0 hc1 x w b cb s p = k0_pay4 (k0_pay8 (addProbs x w b p)) := by
  unfold out0_C_5
  rw [View.read_writes_eq_canon _ _ _ (cover0_C_5 c i a2 h2 a3 h3 a4 h4 a5 h5 a6 h6 a7 h7 a8 h8 a9 h9 a10 h10 a11 h11 hc0 hc1 x w b cb s p)]
  unfold kernelRun0_C
  dsimp only
  sl_unfold_words
  rw [View.canon_cons_unit_zero (S := S1x1) zero2]
  simp only [View.readAt_eq_ld, h2.read_unread, h3.read_unread, h4.read_unread, h5.read_unread, h10.read_unread, h11.read_unread,
    View.ld_unit_zero (S := S2x1024) zero2, View.ld_unit_zero (S := S2048x2048) zero2, View.ld_unit_zero (S := S2048x1) zero2,
    View.ld_unit_zero (S := S1x2048x1024) zero3,
    View.readCov_unit_zero (S := S2x1024) _ zero2]

/-- The last point leaves the perplexity of the final counts. -/
theorem out_C_6 (hc0 : ¬cond0_0 i) (hc1 : cond0_1 i) :
    out0_C_6 c i a2 h2 a3 h3 a4 h4 a5 h5 a6 h6 a7 h7 a8 h8 a9 h9 a10 h10 a11 h11 hc0 hc1 x w b cb s p = k0_pay6 (addCounts x w b s) := by
  unfold out0_C_6
  rw [View.read_writes_eq_canon _ _ _ (cover0_C_6 c i a2 h2 a3 h3 a4 h4 a5 h5 a6 h6 a7 h7 a8 h8 a9 h9 a10 h10 a11 h11 hc0 hc1 x w b cb s p)]
  unfold kernelRun0_C
  dsimp only
  sl_unfold_words
  rw [View.canon_cons_unit_zero (S := S1x1) zero2]
  simp only [View.readAt_eq_ld, h2.read_unread, h3.read_unread, h4.read_unread, h5.read_unread, h10.read_unread, h11.read_unread,
    View.ld_unit_zero (S := S2x1024) zero2, View.ld_unit_zero (S := S2048x2048) zero2, View.ld_unit_zero (S := S2048x1) zero2,
    View.ld_unit_zero (S := S1x2048x1024) zero3,
    View.readCov_unit_zero (S := S2x1024) _ zero2]

/-- The last point leaves the perplexity of the final sums. -/
theorem out_C_7 (hc0 : ¬cond0_0 i) (hc1 : cond0_1 i) :
    out0_C_7 c i a2 h2 a3 h3 a4 h4 a5 h5 a6 h6 a7 h7 a8 h8 a9 h9 a10 h10 a11 h11 hc0 hc1 x w b cb s p = k0_pay7 (addProbs x w b p) := by
  unfold out0_C_7
  rw [View.read_writes_eq_canon _ _ _ (cover0_C_7 c i a2 h2 a3 h3 a4 h4 a5 h5 a6 h6 a7 h7 a8 h8 a9 h9 a10 h10 a11 h11 hc0 hc1 x w b cb s p)]
  unfold kernelRun0_C
  dsimp only
  sl_unfold_words
  rw [View.canon_cons_unit_zero (S := S1x1) zero2]
  simp only [View.readAt_eq_ld, h2.read_unread, h3.read_unread, h4.read_unread, h5.read_unread, h10.read_unread, h11.read_unread,
    View.ld_unit_zero (S := S2x1024) zero2, View.ld_unit_zero (S := S2048x2048) zero2, View.ld_unit_zero (S := S2048x1) zero2,
    View.ld_unit_zero (S := S1x2048x1024) zero3,
    View.readCov_unit_zero (S := S2x1024) _ zero2]

/-- The last point leaves the counts, its own added. -/
theorem out_C_8 (hc0 : ¬cond0_0 i) (hc1 : cond0_1 i) :
    out0_C_8 c i a2 h2 a3 h3 a4 h4 a5 h5 a6 h6 a7 h7 a8 h8 a9 h9 a10 h10 a11 h11 hc0 hc1 x w b cb s p = addCounts x w b s := by
  unfold out0_C_8
  rw [View.read_writes_eq_canon _ _ _ (cover0_C_8 c i a2 h2 a3 h3 a4 h4 a5 h5 a6 h6 a7 h7 a8 h8 a9 h9 a10 h10 a11 h11 hc0 hc1 x w b cb s p)]
  unfold kernelRun0_C
  dsimp only
  sl_unfold_words
  rw [View.canon_cons_unit_zero (S := S2x1024) zero2]
  simp only [View.readAt_eq_ld, h2.read_unread, h3.read_unread, h4.read_unread, h5.read_unread, h10.read_unread, h11.read_unread,
    View.ld_unit_zero (S := S2x1024) zero2, View.ld_unit_zero (S := S2048x2048) zero2, View.ld_unit_zero (S := S2048x1) zero2,
    View.ld_unit_zero (S := S1x2048x1024) zero3,
    View.readCov_unit_zero (S := S2x1024) _ zero2]

/-- The last point leaves the sums of probabilities, its own added. -/
theorem out_C_9 (hc0 : ¬cond0_0 i) (hc1 : cond0_1 i) :
    out0_C_9 c i a2 h2 a3 h3 a4 h4 a5 h5 a6 h6 a7 h7 a8 h8 a9 h9 a10 h10 a11 h11 hc0 hc1 x w b cb s p = addProbs x w b p := by
  unfold out0_C_9
  rw [View.read_writes_eq_canon _ _ _ (cover0_C_9 c i a2 h2 a3 h3 a4 h4 a5 h5 a6 h6 a7 h7 a8 h8 a9 h9 a10 h10 a11 h11 hc0 hc1 x w b cb s p)]
  unfold kernelRun0_C
  dsimp only
  sl_unfold_words
  rw [View.canon_cons_unit_zero (S := S2x1024) zero2]
  simp only [View.readAt_eq_ld, h2.read_unread, h3.read_unread, h4.read_unread, h5.read_unread, h10.read_unread, h11.read_unread,
    View.ld_unit_zero (S := S2x1024) zero2, View.ld_unit_zero (S := S2048x2048) zero2, View.ld_unit_zero (S := S2048x1) zero2,
    View.ld_unit_zero (S := S1x2048x1024) zero3,
    View.readCov_unit_zero (S := S2x1024) _ zero2]

end

end VQ.Ker

end

end
-- ==== Proof.KernelRun.lean ====
/-
  The kernel's run: what each result buffer ends holding, in terms of the blocks the grid points read.
-/
module

public import proofs.«01_k».proof.Proof.KernelBlocks
public import Idealize.ShloMosaic.Lib.Pipeline.ValueKit
public import Idealize.ShloMosaic.Lib.Pointwise
public import Idealize.ShloMosaic.Lib.StableHlo.Run
public import Idealize.ShloMosaic.Lib.Quiescent

@[expose] public section

set_option maxRecDepth 16384

noncomputable section

namespace VQ.Ker

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## What the blocks hold after each point -/

/-- The block of looked-up code vectors of point `t`. -/
abbrev lookupAt (c : Dev nD) (t : Fin cfg0.N) : Vec F S1x512x1024 .f32 :=
  lookup (iblk m c 0 t) (iblk m c 1 t) (iblk m c 2 t) (iblk m c 3 t)

/-- The counts after point `n`. -/
def countsAt (c : Dev nD) : (n : ℕ) → n < cfg0.N → Vec F S2x1024 .f32
  | 0, h => addCounts (iblk m c 0 ⟨0, h⟩) (iblk m c 1 ⟨0, h⟩) (iblk m c 2 ⟨0, h⟩) k0_pay9
  | n + 1, h => addCounts (iblk m c 0 ⟨n + 1, h⟩) (iblk m c 1 ⟨n + 1, h⟩) (iblk m c 2 ⟨n + 1, h⟩) (countsAt c n (Nat.lt_of_succ_lt h))

/-- The sums of probabilities after point `n`. -/
def probsAt (c : Dev nD) : (n : ℕ) → n < cfg0.N → Vec F S2x1024 .f32
  | 0, h => addProbs (iblk m c 0 ⟨0, h⟩) (iblk m c 1 ⟨0, h⟩) (iblk m c 2 ⟨0, h⟩) k0_pay10
  | n + 1, h => addProbs (iblk m c 0 ⟨n + 1, h⟩) (iblk m c 1 ⟨n + 1, h⟩) (iblk m c 2 ⟨n + 1, h⟩) (probsAt c n (Nat.lt_of_succ_lt h))

/-- The first point leaves its own code vectors, counts and sums. -/
theorem first_point (c : Dev nD) (t : Fin cfg0.N) (h0 : t.val % 8 = 0) (h1 : ¬t.val % 8 = 7) :
    (outsAt0 m c t.val t.isLt).1 = lookupAt m c t
      ∧ (outsAt0 m c t.val t.isLt).2.2.2.2.1 = addCounts (iblk m c 0 t) (iblk m c 1 t) (iblk m c 2 t) k0_pay9
      ∧ (outsAt0 m c t.val t.isLt).2.2.2.2.2 = addProbs (iblk m c 0 t) (iblk m c 1 t) (iblk m c 2 t) k0_pay10 := by
  rw [outsAt0_A m c t h0 h1]
  dsimp only
  exact ⟨out_A_4 .., out_A_8 .., out_A_9 ..⟩

/-- A later point leaves its own code vectors and adds its counts and sums to those of the point before. -/
theorem later_point (c : Dev nD) (t : Fin cfg0.N) (h0 : ¬t.val % 8 = 0) :
    (outsAt0 m c t.val t.isLt).1 = lookupAt m c t
      ∧ (outsAt0 m c t.val t.isLt).2.2.2.2.1 = addCounts (iblk m c 0 t) (iblk m c 1 t) (iblk m c 2 t)
          (outsAt0 m c (t.val - 1) (Nat.lt_of_le_of_lt (Nat.sub_le _ _) t.isLt)).2.2.2.2.1
      ∧ (outsAt0 m c t.val t.isLt).2.2.2.2.2 = addProbs (iblk m c 0 t) (iblk m c 1 t) (iblk m c 2 t)
          (outsAt0 m c (t.val - 1) (Nat.lt_of_le_of_lt (Nat.sub_le _ _) t.isLt)).2.2.2.2.2 := by
  by_cases h1 : t.val % 8 = 7
  · rw [outsAt0_C m c t h0 h1]
    dsimp only
    exact ⟨out_C_4 .., out_C_8 .., out_C_9 ..⟩
  · rw [outsAt0_B m c t h0 h1]
    dsimp only
    exact ⟨out_B_4 .., out_B_8 .., out_B_9 ..⟩

/-- The last point leaves the diversity and the two perplexities of the counts and sums it ends with. -/
theorem last_point (c : Dev nD) (t : Fin cfg0.N) (h0 : ¬t.val % 8 = 0) (h1 : t.val % 8 = 7) :
    (outsAt0 m c t.val t.isLt).2.1 = k0_pay4 (k0_pay8 (outsAt0 m c t.val t.isLt).2.2.2.2.2)
      ∧ (outsAt0 m c t.val t.isLt).2.2.1 = k0_pay6 (outsAt0 m c t.val t.isLt).2.2.2.2.1
      ∧ (outsAt0 m c t.val t.isLt).2.2.2.1 = k0_pay7 (outsAt0 m c t.val t.isLt).2.2.2.2.2 := by
  rw [(later_point m c t h0).2.1, (later_point m c t h0).2.2, outsAt0_C m c t h0 h1]
  dsimp only
  exact ⟨out_C_5 .., out_C_6 .., out_C_7 ..⟩

/-- After point `n` the two accumulating blocks hold the counts and the sums. -/
theorem acc_eq (c : Dev nD) : ∀ (n : ℕ) (h : n < cfg0.N),
    (outsAt0 m c n h).2.2.2.2.1 = countsAt m c n h ∧ (outsAt0 m c n h).2.2.2.2.2 = probsAt m c n h
  | 0, h => (first_point m c ⟨0, h⟩ rfl (show ¬0 % 8 = 7 by decide)).2
  | n + 1, h => by
    have hN : cfg0.N = 8 := N_0
    have hn : ¬(n + 1) % 8 = 0 := by omega
    obtain ⟨ic, ip⟩ := acc_eq c n (Nat.lt_of_succ_lt h)
    obtain ⟨-, e, e'⟩ := later_point m c ⟨n + 1, h⟩ hn
    exact ⟨e.trans (congrArg (addCounts _ _ _) ic), e'.trans (congrArg (addProbs _ _ _) ip)⟩

/-- Every point leaves its code vectors. -/
theorem codes_eq (c : Dev nD) (t : Fin cfg0.N) : (outsAt0 m c t.val t.isLt).1 = lookupAt m c t := by
  by_cases h0 : t.val % 8 = 0
  · exact (first_point m c t h0 (by omega)).1
  · exact (later_point m c t h0).1

/-- The grid has a point number 7. -/
theorem lt7 : 7 < cfg0.N := by rw [show cfg0.N = 8 from N_0]; decide

/-- After the last point the three one-element blocks hold the diversity and the two perplexities. -/
theorem outs_last (c : Dev nD) (t : Fin cfg0.N) (h1 : t.val % 8 = 7) :
    (outsAt0 m c t.val t.isLt).2.1 = k0_pay4 (k0_pay8 (probsAt m c 7 lt7))
      ∧ (outsAt0 m c t.val t.isLt).2.2.1 = k0_pay6 (countsAt m c 7 lt7)
      ∧ (outsAt0 m c t.val t.isLt).2.2.2.1 = k0_pay7 (probsAt m c 7 lt7) := by
  have e := last_point m c t (by omega) h1
  rw [(acc_eq m c t.val t.isLt).1, (acc_eq m c t.val t.isLt).2] at e
  have hN : cfg0.N = 8 := N_0
  have ht : t.val = 7 := by have := t.isLt; omega
  have hc : countsAt m c t.val t.isLt = countsAt m c 7 lt7 := by congr 1
  have hp : probsAt m c t.val t.isLt = probsAt m c 7 lt7 := by congr 1
  rw [hc, hp] at e
  exact e

/-! ## What the arrays end holding -/

/-- The block of code vectors of point `t`: batch entry `t / 2`, time tile `t % 2`. -/
theorem index4 : ∀ t : Fin grid0.N, win0_4.index t 0 = t.val / 2 ∧ win0_4.index t 1 = 0 ∧ win0_4.index t 2 = t.val % 2 := by
  decide +kernel

/-- The grid point that covers batch entry `b` and frame `T`. -/
def pointOf (b : Fin 4) (T : Fin 2048) : Fin cfg0.N :=
  ⟨2 * b.val + T.val / 1024, by rw [show cfg0.N = 8 from N_0]; omega⟩

/-- The whole array of looked-up code vectors. -/
def codes (c : Dev nD) : Vec F S4x512x2048 .f32 := fun i =>
  lookupAt m c (pointOf (i 0) (i 2)) (ix3 0 (i 1) ⟨(i 2).val % 1024, Nat.mod_lt _ (by decide)⟩)

/-- An array read through the window's block at point `t`. -/
theorem read4 (G : Vec F S4x512x2048 .f32) (t : Fin cfg0.N) (y : S1x512x1024.Idx) :
    ((cfg0.win 4).blk t).view.read (Elt F) G y = G ((win0_4.rect t).emb y) := rfl

/-- The block is written back whole. -/
theorem cut4 (X : Vec F S1x512x1024 .f32) (t : Fin cfg0.N) (y : S1x512x1024.Idx) : (cfg0.win 4).cut (grid0.coords t) X y = X y := rfl

/-- The array of looked-up code vectors ends holding `codes`. -/
theorem final_codes (c : Dev nD) : (dats m 0 c).arrAt 4 cfg0.N = codes m c := by
  refine (dats m 0 c).arrAt_eq_of_cover 4 (codes m c) (fun t _ => ?_) fun i => ?_
  · show (cfg0.win 4).cut (grid0.coords t) ((dats m 0 c).after 4 t) = _
    rw [after0_4, codes_eq]
    funext y
    have hN : cfg0.N = 8 := N_0
    have ht : t.val < 8 := hN ▸ t.isLt
    obtain ⟨e0, e1, e2⟩ := index4 t
    have h0 : (((win0_4.rect t).emb y 0 : Fin _) : ℕ) = t.val / 2 * 1 + (y 0).val := by rw [win0_4.rect_emb_val t y 0, e0]; rfl
    have h1 : (((win0_4.rect t).emb y 1 : Fin _) : ℕ) = 0 * 512 + (y 1).val := by rw [win0_4.rect_emb_val t y 1, e1]; rfl
    have h2 : (((win0_4.rect t).emb y 2 : Fin _) : ℕ) = t.val % 2 * 1024 + (y 2).val := by rw [win0_4.rect_emb_val t y 2, e2]; rfl
    have y0 : (y 0).val < 1 := (y 0).isLt
    have y2 : (y 2).val < 1024 := (y 2).isLt
    have hp : pointOf ((win0_4.rect t).emb y 0) ((win0_4.rect t).emb y 2) = t := by
      apply Fin.ext
      show 2 * (((win0_4.rect t).emb y 0 : Fin _) : ℕ) + (((win0_4.rect t).emb y 2 : Fin _) : ℕ) / 1024 = t.val
      rw [h0, h2]; omega
    have hi : (ix3 0 ((win0_4.rect t).emb y 1) ⟨(((win0_4.rect t).emb y 2 : Fin _) : ℕ) % 1024, Nat.mod_lt _ (by decide)⟩ : S1x512x1024.Idx) = y := by
      funext a
      apply Fin.ext
      match a with
      | ⟨0, _⟩ => exact (Nat.lt_one_iff.mp y0).symm
      | ⟨1, _⟩ => exact h1.trans (show 0 * 512 + (y 1).val = (y 1).val by omega)
      | ⟨2, _⟩ => show (((win0_4.rect t).emb y 2 : Fin _) : ℕ) % 1024 = (y 2).val; rw [h2]; omega
    have hr : ((cfg0.win 4).blk t).view.read (Elt F) (codes m c) y = codes m c ((win0_4.rect t).emb y) := read4 _ t y
    rw [hr]
    refine (cut4 (lookupAt m c t) t y).trans ?_
    unfold codes
    rw [hp, hi]
  · refine ⟨pointOf (i 0) (i 2), flush0_4 _, ?_⟩
    obtain ⟨e0, e1, e2⟩ := index4 (pointOf (i 0) (i 2))
    have i0 : (i 0).val < 4 := (i 0).isLt
    have i1 : (i 1).val < 512 := (i 1).isLt
    have i2 : (i 2).val < 2048 := (i 2).isLt
    have hp : (pointOf (i 0) (i 2)).val = 2 * (i 0).val + (i 2).val / 1024 := rfl
    show i ∈ ((View.whole main_v3_0).slice (win0_4.rect (pointOf (i 0) (i 2)))).set
    rw [View.set_slice_whole, Rect.mem_set_unit]
    intro a
    match a with
    | ⟨0, _⟩ =>
      show win0_4.index (pointOf (i 0) (i 2)) 0 * 1 ≤ (i 0).val ∧ (i 0).val < win0_4.index (pointOf (i 0) (i 2)) 0 * 1 + 1
      rw [e0, hp]; omega
    | ⟨1, _⟩ =>
      show win0_4.index (pointOf (i 0) (i 2)) 1 * 512 ≤ (i 1).val ∧ (i 1).val < win0_4.index (pointOf (i 0) (i 2)) 1 * 512 + 512
      rw [e1]; omega
    | ⟨2, _⟩ =>
      show win0_4.index (pointOf (i 0) (i 2)) 2 * 1024 ≤ (i 2).val ∧ (i 2).val < win0_4.index (pointOf (i 0) (i 2)) 2 * 1024 + 1024
      rw [e2, hp]; omega

/-- Each one-element array's block is the array itself. -/
theorem index_one : ∀ t : Fin grid0.N, (∀ a, win0_5.index t a = 0) ∧ (∀ a, win0_6.index t a = 0) ∧ (∀ a, win0_7.index t a = 0) := by
  decide +kernel

/-- The array of the diversity ends holding it. -/
theorem final_div (c : Dev nD) : (dats m 0 c).arrAt 5 cfg0.N = k0_pay4 (k0_pay8 (probsAt m c 7 lt7)) := by
  refine (dats m 0 c).arrAt_eq_of_cover 5 _ (fun t hf => ?_) fun i => ⟨⟨7, lt7⟩, (flush0_5 _).mpr rfl, ?_⟩
  · show (cfg0.win 5).cut (grid0.coords t) ((dats m 0 c).after 5 t) = _
    rw [after0_5, (outs_last m c t ((flush0_5 t).mp hf)).1]
    have hz : (fun a => win0_5.index t a * main_v3_1.ty.shape.size a) = fun _ => 0 := funext fun a => by
      show win0_5.index t a * _ = 0; rw [(index_one t).1 a, Nat.zero_mul]
    exact (Memref.read_access_unit_zero (Elt F) main_v3_1 hz (fun a => by rw [congrFun hz a]; simp) _).symm
  · show i ∈ ((View.whole main_v3_1).slice (win0_5.rect ⟨7, lt7⟩)).set
    rw [View.set_slice_whole, Rect.mem_set_unit]
    intro a
    have hi : (i a).val < 1 := by have := (i a).isLt; fin_cases a <;> exact this
    have hs : win0_5.size a = 1 := by fin_cases a <;> rfl
    show win0_5.index ⟨7, lt7⟩ a * win0_5.size a ≤ (i a).val ∧ (i a).val < win0_5.index ⟨7, lt7⟩ a * win0_5.size a + win0_5.size a
    rw [(index_one _).1 a, hs]; omega

/-- The array of the perplexity of the counts ends holding it. -/
theorem final_cp (c : Dev nD) : (dats m 0 c).arrAt 6 cfg0.N = k0_pay6 (countsAt m c 7 lt7) := by
  refine (dats m 0 c).arrAt_eq_of_cover 6 _ (fun t hf => ?_) fun i => ⟨⟨7, lt7⟩, (flush0_6 _).mpr rfl, ?_⟩
  · show (cfg0.win 6).cut (grid0.coords t) ((dats m 0 c).after 6 t) = _
    rw [after0_6, (outs_last m c t ((flush0_6 t).mp hf)).2.1]
    have hz : (fun a => win0_6.index t a * main_v3_2.ty.shape.size a) = fun _ => 0 := funext fun a => by
      show win0_6.index t a * _ = 0; rw [(index_one t).2.1 a, Nat.zero_mul]
    exact (Memref.read_access_unit_zero (Elt F) main_v3_2 hz (fun a => by rw [congrFun hz a]; simp) _).symm
  · show i ∈ ((View.whole main_v3_2).slice (win0_6.rect ⟨7, lt7⟩)).set
    rw [View.set_slice_whole, Rect.mem_set_unit]
    intro a
    have hi : (i a).val < 1 := by have := (i a).isLt; fin_cases a <;> exact this
    have hs : win0_6.size a = 1 := by fin_cases a <;> rfl
    show win0_6.index ⟨7, lt7⟩ a * win0_6.size a ≤ (i a).val ∧ (i a).val < win0_6.index ⟨7, lt7⟩ a * win0_6.size a + win0_6.size a
    rw [(index_one _).2.1 a, hs]; omega

/-- The array of the perplexity of the sums ends holding it. -/
theorem final_pp (c : Dev nD) : (dats m 0 c).arrAt 7 cfg0.N = k0_pay7 (probsAt m c 7 lt7) := by
  refine (dats m 0 c).arrAt_eq_of_cover 7 _ (fun t hf => ?_) fun i => ⟨⟨7, lt7⟩, (flush0_7 _).mpr rfl, ?_⟩
  · show (cfg0.win 7).cut (grid0.coords t) ((dats m 0 c).after 7 t) = _
    rw [after0_7, (outs_last m c t ((flush0_7 t).mp hf)).2.2]
    have hz : (fun a => win0_7.index t a * main_v3_3.ty.shape.size a) = fun _ => 0 := funext fun a => by
      show win0_7.index t a * _ = 0; rw [(index_one t).2.2 a, Nat.zero_mul]
    exact (Memref.read_access_unit_zero (Elt F) main_v3_3 hz (fun a => by rw [congrFun hz a]; simp) _).symm
  · show i ∈ ((View.whole main_v3_3).slice (win0_7.rect ⟨7, lt7⟩)).set
    rw [View.set_slice_whole, Rect.mem_set_unit]
    intro a
    have hi : (i a).val < 1 := by have := (i a).isLt; fin_cases a <;> exact this
    have hs : win0_7.size a = 1 := by fin_cases a <;> rfl
    show win0_7.index ⟨7, lt7⟩ a * win0_7.size a ≤ (i a).val ∧ (i a).val < win0_7.index ⟨7, lt7⟩ a * win0_7.size a + win0_7.size a
    rw [(index_one _).2.2 a, hs]; omega

/-! ## The run -/

/-- A reshaped one-element result, after the last host operations. -/
theorem tail_eq (c : Dev nD) :
    Pipeline.afterTail₀ cfgs (dats m) 0 (V0 m) [hostOps1] c main_v4 = shapeCast S_ (k0_pay4 (k0_pay8 (probsAt m c 7 lt7))) shapeCasts_S1x1_S_
      ∧ Pipeline.afterTail₀ cfgs (dats m) 0 (V0 m) [hostOps1] c main_v5 = shapeCast S_ (k0_pay6 (countsAt m c 7 lt7)) shapeCasts_S1x1_S_
      ∧ Pipeline.afterTail₀ cfgs (dats m) 0 (V0 m) [hostOps1] c main_v6 = shapeCast S_ (k0_pay7 (probsAt m c 7 lt7)) shapeCasts_S1x1_S_ := by
  rw [← final_div, ← final_cp, ← final_pp]
  have h5 := Pipeline.withArrays_arr (Val := Elt F) spec0 launch0.win.arr_inj c (V0 m c) (fun w => (dats m 0 c).arrAt w cfg0.N) 5
  have h6 := Pipeline.withArrays_arr (Val := Elt F) spec0 launch0.win.arr_inj c (V0 m c) (fun w => (dats m 0 c).arrAt w cfg0.N) 6
  have h7 := Pipeline.withArrays_arr (Val := Elt F) spec0 launch0.win.arr_inj c (V0 m c) (fun w => (dats m 0 c).arrAt w cfg0.N) 7
  rw [← h5, ← h6, ← h7]
  unfold Pipeline.afterTail₀
  refine ⟨?_, ?_, ?_⟩
  all_goals
    dsimp only [hostOps1, List.flatten_cons, List.flatten_nil, List.append_nil, List.cons_append, List.nil_append]
    after_results
    try rfl

/-- Every execution of the kernel ends with its results at the code vectors and the three scalars, the arguments unchanged. -/
theorem run : θ_run defs (onTc (τ := τ) (main (F := F))) ⟨m, fun _ => 0, ρ⟩ (fun r => ∀ c : Dev nD,
      r.2.mem ((c.tc : Thread nD τ).loc main_v3_0) = codes m c
      ∧ r.2.mem ((c.tc : Thread nD τ).loc main_v4) = shapeCast S_ (k0_pay4 (k0_pay8 (probsAt m c 7 lt7))) shapeCasts_S1x1_S_
      ∧ r.2.mem ((c.tc : Thread nD τ).loc main_v5) = shapeCast S_ (k0_pay6 (countsAt m c 7 lt7)) shapeCasts_S1x1_S_
      ∧ r.2.mem ((c.tc : Thread nD τ).loc main_v6) = shapeCast S_ (k0_pay7 (probsAt m c 7 lt7)) shapeCasts_S1x1_S_
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.1 c).1 4).trans (final_codes m c),
      ((h.1 c).2 main_v4 (by decide)).trans (tail_eq m c).1,
      ((h.1 c).2 main_v5 (by decide)).trans (tail_eq m c).2.1,
      ((h.1 c).2 main_v6 (by decide)).trans (tail_eq m c).2.2, h.2 c⟩)
    (θ_run_and (run_main m ρ) (unchanged m ρ))

/-! ## What the points read -/

/-- The block of the input of point `t`: batch entry `t / 2`, time tile `t % 2`. -/
theorem index0 : ∀ t : Fin grid0.N, win0_0.index t 0 = t.val / 2 ∧ win0_0.index t 1 = 0 ∧ win0_0.index t 2 = t.val % 2 := by
  decide +kernel
/-- The weights, the bias and the codebook are read whole at every point. -/
theorem index123 : ∀ t : Fin grid0.N, (∀ a, win0_1.index t a = 0) ∧ (∀ a, win0_2.index t a = 0) ∧ (∀ a, win0_3.index t a = 0) := by
  decide +kernel

/-- The input block of point `t`, at an index. -/
theorem block_x (c : Dev nD) (t : Fin cfg0.N) (k : Fin 2048) (l : Fin 1024) (b : Fin 4) (T : Fin 2048)
    (hb : b.val = t.val / 2) (hT : T.val = t.val % 2 * 1024 + l.val) :
    iblk m c 0 t (ix3 0 k l : S1x2048x1024.Idx) = m ((c.tc : Thread nD τ).loc main_arg0) (ix3 b k T : S4x2048x2048.Idx) := by
  obtain ⟨e0, e1, e2⟩ := index0 t
  show V m c main_arg0 ((win0_0.rect t).emb (ix3 0 k l : S1x2048x1024.Idx)) = _
  rw [V_main_arg0]
  congr 1
  funext a
  apply Fin.ext
  refine (win0_0.rect_emb_val t (ix3 0 k l : S1x2048x1024.Idx) a).trans ?_
  match a with
  | ⟨0, _⟩ => show win0_0.index t 0 * 1 + 0 = b.val; rw [e0, hb]; omega
  | ⟨1, _⟩ => show win0_0.index t 1 * 2048 + k.val = k.val; rw [e1]; omega
  | ⟨2, _⟩ => show win0_0.index t 2 * 1024 + l.val = T.val; rw [e2, hT]

/-- The weights are read whole. -/
theorem block_w (c : Dev nD) (t : Fin cfg0.N) : (iblk m c 1 t : Vec F S2048x2048 .f32) = m ((c.tc : Thread nD τ).loc main_arg1) := by
  funext y
  show V m c main_arg1 ((win0_1.rect t).emb y) = _
  rw [V_main_arg1]
  congr 1
  funext a
  apply Fin.ext
  refine (win0_1.rect_emb_val t y a).trans ?_
  rw [(index123 t).1 a, Nat.zero_mul, Nat.zero_add]

/-- The bias as a column. -/
theorem entry_b (c : Dev nD) : V m c main_v2 = shapeCast S2048x1 (m ((c.tc : Thread nD τ).loc main_arg2)) shapeCasts_S2048_S2048x1 := by
  dsimp only [V, V0, hostOps0, List.flatten_cons, List.flatten_nil, List.append_nil, List.cons_append, List.nil_append]
  after_results
  try rfl

/-- The codebook with its last two axes exchanged. -/
theorem entry_cb (c : Dev nD) : V m c main_v1 = transpose S2x256x1024 [0, 2, 1]
    (shapeCast S2x1024x256 (m ((c.tc : Thread nD τ).loc main_arg3)) shapeCasts_S1x2x1024x256_S2x1024x256) transposes_S2x1024x256_S2x256x1024_0_2_1 := by
  dsimp only [V, V0, hostOps0, List.flatten_cons, List.flatten_nil, List.append_nil, List.cons_append, List.nil_append]
  after_results
  try rfl

/-- The bias is read whole. -/
theorem block_b (c : Dev nD) (t : Fin cfg0.N) : (iblk m c 2 t : Vec F S2048x1 .f32)
    = shapeCast S2048x1 (m ((c.tc : Thread nD τ).loc main_arg2)) shapeCasts_S2048_S2048x1 := by
  rw [← entry_b]
  funext y
  show V m c main_v2 ((win0_2.rect t).emb y) = _
  congr 1
  funext a
  apply Fin.ext
  refine (win0_2.rect_emb_val t y a).trans ?_
  rw [(index123 t).2.1 a, Nat.zero_mul, Nat.zero_add]

/-- The codebook is read whole. -/
theorem block_cb (c : Dev nD) (t : Fin cfg0.N) : (iblk m c 3 t : Vec F S2x256x1024 .f32) = transpose S2x256x1024 [0, 2, 1]
    (shapeCast S2x1024x256 (m ((c.tc : Thread nD τ).loc main_arg3)) shapeCasts_S1x2x1024x256_S2x1024x256) transposes_S2x1024x256_S2x256x1024_0_2_1 := by
  rw [← entry_cb]
  funext y
  show V m c main_v1 ((win0_3.rect t).emb y) = _
  congr 1
  funext a
  apply Fin.ext
  refine (win0_3.rect_emb_val t y a).trans ?_
  rw [(index123 t).2.2 a, Nat.zero_mul, Nat.zero_add]

end VQ.Ker

end

end
-- ==== Proof.Spec.lean ====
/-
  Plain mathematics on a row of extended reals: its largest entry, the first place that entry stands at,
  the one-hot vector of that place, the softmax, and the perplexity of two rows.
-/
module

public import Idealize.ShloMosaic.PureOps.Ideal.Laws
public import Idealize.ShloMosaic.Lib.Pointwise
public import Idealize.ShloMosaic.Lib.WordCmp

@[expose] public section

set_option maxRecDepth 16384

noncomputable section

namespace VQ.Spec

open Idealize.ShloMosaic
open scoped BigOperators

/-! ## The largest entry of a row -/

/-- The largest entry of a row. -/
def top {n : ℕ} (f : Fin n → EReal) : EReal := Finset.univ.fold max ⊥ f

/-- No entry exceeds the largest. -/
theorem le_top_row {n : ℕ} (f : Fin n → EReal) (k : Fin n) : f k ≤ top f :=
  (Finset.le_fold_max (f k)).2 (Or.inr ⟨k, Finset.mem_univ k, le_rfl⟩)

/-- A bound of every entry bounds the largest. -/
theorem top_le {n : ℕ} (f : Fin n → EReal) (c : EReal) (h : ∀ k, f k ≤ c) : top f ≤ c :=
  (Finset.fold_max_le c).2 ⟨bot_le, fun k _ => h k⟩

/-- An entry no other exceeds is the largest. -/
theorem top_eq_of_forall_le {n : ℕ} (f : Fin n → EReal) (k : Fin n) (h : ∀ j, f j ≤ f k) : top f = f k :=
  le_antisymm (top_le f _ h) (le_top_row f k)

/-- Some entry of a row that is not empty is the largest. -/
theorem exists_eq_top {n : ℕ} (f : Fin n → EReal) (i : Fin n) : ∃ k, f k = top f := by
  obtain ⟨k, -, hk⟩ := Finset.exists_max_image Finset.univ f ⟨i, Finset.mem_univ i⟩
  exact ⟨k, (top_eq_of_forall_le f k fun j => hk j (Finset.mem_univ j)).symm⟩

/-- `k` is the first place at which the row's largest entry stands. -/
def IsFirst {n : ℕ} (f : Fin n → EReal) (k : Fin n) : Prop := f k = top f ∧ ∀ j, j < k → f j ≠ top f

open Classical in
/-- The one-hot vector of that place. -/
def hot {n : ℕ} (f : Fin n → EReal) (k : Fin n) : EReal := if IsFirst f k then 1 else 0

/-! ## The softmax of a row -/

/-- The exponential of an entry less the largest. -/
def shifted {n : ℕ} (f : Fin n → EReal) (k : Fin n) : EReal := Ideal.exp (f k - top f)

/-- The softmax of a row. -/
def soft {n : ℕ} (f : Fin n → EReal) (k : Fin n) : EReal := Ideal.div (shifted f k) (∑ j, shifted f j)

/-- A row whose entries are all real numbers. -/
def Real' {n : ℕ} (f : Fin n → EReal) : Prop := ∀ k, ∃ r : ℝ, f k = (r : EReal)

/-- The shifted exponentials of a real row are positive real numbers. -/
theorem shifted_real {n : ℕ} {f : Fin n → EReal} (hf : Real' f) (k : Fin n) :
    ∃ r : ℝ, 0 < r ∧ shifted f k = (r : EReal) := by
  obtain ⟨j, hj⟩ := exists_eq_top f k
  obtain ⟨a, ha⟩ := hf k
  obtain ⟨c, hc⟩ := hf j
  refine ⟨Real.exp (a - c), Real.exp_pos _, ?_⟩
  unfold shifted
  rw [← hj, ha, hc, ← EReal.coe_sub]
  rfl

/-- Their sum is a positive real number. -/
theorem sum_shifted_real {n : ℕ} {f : Fin n → EReal} (hf : Real' f) (k : Fin n) :
    ∃ s : ℝ, 0 < s ∧ ∑ j, shifted f j = (s : EReal) := by
  choose r hr he using fun j => shifted_real hf j
  refine ⟨∑ j, r j, Finset.sum_pos (fun j _ => hr j) ⟨k, Finset.mem_univ k⟩, ?_⟩
  rw [Finset.sum_congr rfl fun j _ => he j]
  exact (map_sum (⟨⟨fun a : ℝ => (a : EReal), EReal.coe_zero⟩, EReal.coe_add⟩ : ℝ →+ EReal) r Finset.univ).symm

/-- A quotient by a number that is not zero is the product with its inverse. -/
theorem div_eq_mul_inv {x y : EReal} (hy : y ≠ 0) : Ideal.div x y = x * y⁻¹ := if_neg hy

/-- Multiplying a shifted exponential by the reciprocal of the sum is dividing it by the sum. -/
theorem shifted_mul_div {n : ℕ} {f : Fin n → EReal} (hf : Real' f) (k : Fin n) :
    shifted f k * Ideal.div 1 (∑ j, shifted f j) = soft f k := by
  obtain ⟨s, hs, he⟩ := sum_shifted_real hf k
  have h0 : (∑ j, shifted f j) ≠ 0 := by rw [he]; exact_mod_cast hs.ne'
  unfold soft
  rw [div_eq_mul_inv h0, div_eq_mul_inv h0, one_mul]

/-- The softmax of a real row is real. -/
theorem soft_real {n : ℕ} {f : Fin n → EReal} (hf : Real' f) (k : Fin n) : ∃ r : ℝ, soft f k = (r : EReal) := by
  obtain ⟨s, hs, he⟩ := sum_shifted_real hf k
  obtain ⟨r, -, hr⟩ := shifted_real hf k
  have h0 : (∑ j, shifted f j) ≠ 0 := by rw [he]; exact_mod_cast hs.ne'
  refine ⟨r * s⁻¹, ?_⟩
  unfold soft
  rw [div_eq_mul_inv h0, he, hr, ← EReal.coe_inv, ← EReal.coe_mul]

/-- Adding a real number and taking it away again changes nothing. -/
theorem add_sub_real (a : EReal) {c : EReal} (hc : ∃ r : ℝ, c = (r : EReal)) : a + c - c = a := by
  obtain ⟨r, rfl⟩ := hc
  exact EReal.add_sub_cancel_right

/-! ## The first largest entry as the least index -/

/-- The signed value of a small word. -/
theorem toInt_ofNat {k : ℕ} (hk : k < 2048) : (BitVec.ofNat 32 k).toInt = (k : ℤ) := by
  rw [BitVec.toInt_eq_toNat_of_lt (by rw [BitVec.toNat_ofNat, Nat.mod_eq_of_lt (by omega)]; omega), BitVec.toNat_ofNat,
    Nat.mod_eq_of_lt (by omega)]

/-- The signed value of the lesser of two words is the lesser of the signed values. -/
theorem toInt_minsi (a c : BitVec 32) : (IntOp.minsi a c).toInt = min a.toInt c.toInt := by
  unfold IntOp.minsi
  by_cases h : a.slt c
  · have h' : a.toInt < c.toInt := by simpa [BitVec.slt] using h
    rw [if_pos h, min_eq_left h'.le]
  · have h' : c.toInt ≤ a.toInt := by simpa [BitVec.slt] using h
    rw [if_neg h, min_eq_right h']

/-- The least word of a family has the least signed value. -/
theorem toInt_fold_minsi {n : ℕ} (e : Fin n → BitVec 32) (z : BitVec 32) :
    (Finset.univ.fold IntOp.minsi z e).toInt = Finset.univ.fold min z.toInt fun k => (e k).toInt :=
  (Finset.fold_hom (op := IntOp.minsi) (op' := min) (m := BitVec.toInt) (f := e) (b := z) (s := Finset.univ)
    fun x y => toInt_minsi x y).symm

open Classical in
/-- The least among the indices of the largest entries, every other place counting as 1024, is the first such index. -/
theorem fold_minsi_eq_iff (f : Fin 1024 → EReal) (v : Fin 1024) :
    (Finset.univ.fold IntOp.minsi 2147483647#32 fun j : Fin 1024 => if f j = top f then BitVec.ofNat 32 j.val else 1024#32)
        = BitVec.ofNat 32 v.val ↔ IsFirst f v := by
  have hz : (2147483647#32).toInt = 2147483647 := by decide
  have hc : (1024#32).toInt = 1024 := by decide
  have hval : ∀ j : Fin 1024, (if f j = top f then BitVec.ofNat 32 j.val else 1024#32).toInt
      = if f j = top f then (j.val : ℤ) else 1024 := fun j => by
    split
    · exact toInt_ofNat (by omega)
    · exact hc
  rw [← BitVec.toInt_inj, toInt_fold_minsi, hz, toInt_ofNat (k := v.val) (by omega)]
  simp only [hval]
  constructor
  · intro h
    have hle : ∀ j : Fin 1024, (v.val : ℤ) ≤ if f j = top f then (j.val : ℤ) else 1024 := fun j =>
      ((Finset.le_fold_min _).1 h.ge).2 j (Finset.mem_univ j)
    have hlt : ∀ j, j < v → f j ≠ top f := fun j hj e => by
      have := hle j
      rw [if_pos e] at this
      have hj' : j.val < v.val := hj
      omega
    rcases (Finset.fold_min_le _).1 h.le with h1 | ⟨j, -, hj⟩
    · omega
    · by_cases e : f j = top f
      · rw [if_pos e] at hj
        have h2 := hle j
        rw [if_pos e] at h2
        have : j = v := Fin.ext (by omega)
        exact ⟨this ▸ e, hlt⟩
      · rw [if_neg e] at hj
        omega
  · rintro ⟨he, hlt⟩
    apply le_antisymm
    · exact (Finset.fold_min_le _).2 (Or.inr ⟨v, Finset.mem_univ v, by rw [if_pos he]⟩)
    · refine (Finset.le_fold_min _).2 ⟨by omega, fun j _ => ?_⟩
      split
      · next e =>
        have : ¬ j.val < v.val := fun hj => hlt j hj e
        omega
      · omega

open Classical in
/-- The one-hot bit of an index equal to the first largest entry's, as a number (unsigned conversion). -/
theorem uitofp_cmpi_eq {f : Fin 1024 → EReal} {v : Fin 1024} {k : BitVec 32} (h : k = BitVec.ofNat 32 v.val ↔ IsFirst f v) :
    FloatOps.uitofp (F := Ideal) .f32 (IntOp.cmpi .eq k (BitVec.ofNat 32 v.val)) = hot f v := by
  unfold hot
  by_cases e : k = BitVec.ofNat 32 v.val
  · rw [if_pos (h.1 e), e]
    show ((((IntOp.cmpi .eq (BitVec.ofNat 32 v.val) (BitVec.ofNat 32 v.val)).toNat : ℝ)) : EReal) = 1
    simp [IntOp.cmpi]
  · rw [if_neg (fun h' => e (h.2 h'))]
    show ((((IntOp.cmpi .eq k (BitVec.ofNat 32 v.val)).toNat : ℝ)) : EReal) = 0
    simp [IntOp.cmpi, e]

open Classical in
/-- The same bit widened to 32 bits and converted as a signed number. -/
theorem sitofp_cmpi_eq {f : Fin 1024 → EReal} {v : Fin 1024} {k : BitVec 32} (h : k = BitVec.ofNat 32 v.val ↔ IsFirst f v) :
    FloatOps.sitofp (F := Ideal) .f32 (BitVec.setWidth 32 (IntOp.cmpi .eq (BitVec.ofNat 32 v.val) k)) = hot f v := by
  unfold hot
  by_cases e : k = BitVec.ofNat 32 v.val
  · rw [if_pos (h.1 e), e]
    show ((((BitVec.setWidth 32 (IntOp.cmpi .eq (BitVec.ofNat 32 v.val) (BitVec.ofNat 32 v.val))).toInt : ℝ)) : EReal) = 1
    simp [IntOp.cmpi]
  · rw [if_neg (fun h' => e (h.2 h'))]
    have e' : (BitVec.ofNat 32 v.val == k) = false := beq_eq_false_iff_ne.2 fun q => e q.symm
    show ((((BitVec.setWidth 32 (IntOp.cmpi .eq (BitVec.ofNat 32 v.val) k)).toInt : ℝ)) : EReal) = 0
    simp [IntOp.cmpi, e']

/-! ## The logits of a token, and perplexities -/

/-- The token number `n` counts the time steps of one batch entry after another's: its batch entry. -/
abbrev batch (n : Fin 8192) : Fin 4 := ⟨n.val / 2048, by omega⟩
/-- Its time step. -/
abbrev time (n : Fin 8192) : Fin 2048 := ⟨n.val % 2048, by omega⟩
/-- The row of the weights that belongs to code `v` of group `g`. -/
abbrev code (g : Fin 2) (v : Fin 1024) : Fin 2048 := ⟨g.val * 1024 + v.val, by omega⟩

/-- The logits of token `n` in group `g`, one per code. -/
def row (x : Fin 4 → Fin 2048 → Fin 2048 → EReal) (w : Fin 2048 → Fin 2048 → EReal) (b : Fin 2048 → EReal) (n : Fin 8192)
    (g : Fin 2) : Fin 1024 → EReal := fun v => ∑ k, x (batch n) k (time n) * w (code g v) k + b (code g v)

/-- A finite sum of real numbers is real. -/
theorem sum_real {ι : Type} (s : Finset ι) (f : ι → EReal) (h : ∀ i, ∃ r : ℝ, f i = (r : EReal)) :
    ∃ r : ℝ, ∑ i ∈ s, f i = (r : EReal) := by
  choose r hr using h
  refine ⟨∑ i ∈ s, r i, ?_⟩
  rw [Finset.sum_congr rfl fun j _ => hr j]
  exact (map_sum (⟨⟨fun a : ℝ => (a : EReal), EReal.coe_zero⟩, EReal.coe_add⟩ : ℝ →+ EReal) r s).symm

/-- The logits of real inputs are real. -/
theorem row_real {x : Fin 4 → Fin 2048 → Fin 2048 → EReal} {w : Fin 2048 → Fin 2048 → EReal} {b : Fin 2048 → EReal}
    (hx : ∀ i j k, ∃ r : ℝ, x i j k = (r : EReal)) (hw : ∀ i j, ∃ r : ℝ, w i j = (r : EReal))
    (hb : ∀ i, ∃ r : ℝ, b i = (r : EReal)) (n : Fin 8192) (g : Fin 2) : Real' (row x w b n g) := fun v => by
  obtain ⟨s, hs⟩ := sum_real Finset.univ (fun k => x (batch n) k (time n) * w (code g v) k) fun k => by
    obtain ⟨a, ha⟩ := hx (batch n) k (time n)
    obtain ⟨c, hc⟩ := hw (code g v) k
    exact ⟨a * c, by rw [ha, hc, EReal.coe_mul]⟩
  obtain ⟨c, hc⟩ := hb (code g v)
  exact ⟨s + c, by unfold row; rw [hs, hc, EReal.coe_add]⟩

/-- Halving a real row leaves it real. -/
theorem half_real {n : ℕ} {f : Fin n → EReal} (hf : Real' f) : Real' fun k => Ideal.div (f k) (Ideal.ofBits .f32 0x40000000#32) :=
  fun k => by
    obtain ⟨r, hr⟩ := hf k
    have h2 : Ideal.ofBits .f32 0x40000000#32 = ((2 : ℝ) : EReal) := by
      simp [Ideal.ofBits, Ideal.ieee]
      rw [← EReal.coe_mul]
      norm_num
    refine ⟨r * 2⁻¹, ?_⟩
    show Ideal.div (f k) (Ideal.ofBits .f32 0x40000000#32) = _
    rw [h2, div_eq_mul_inv (by exact_mod_cast (two_ne_zero : (2 : ℝ) ≠ 0)), hr, ← EReal.coe_inv, ← EReal.coe_mul]

/-- The sum over the two groups of the exponential of the entropy of the mean over the tokens. -/
def perp (tot : Fin 2 → Fin 1024 → EReal) : EReal :=
  ∑ g, Ideal.exp (-∑ v, Ideal.div (tot g v) (Ideal.ofBits .f32 0x46000000#32)
    * Ideal.log (Ideal.div (tot g v) (Ideal.ofBits .f32 0x46000000#32) + Ideal.ofBits .f32 0x33D6BF95#32))

/-- How far a perplexity stays below the number of codes, as a share of that number. -/
def lack (p : EReal) : EReal := Ideal.div (Ideal.ofBits .f32 0x45000000#32 - p) (Ideal.ofBits .f32 0x45000000#32)

/-- The negative infinity of the 32-bit floats is the least extended real. -/
theorem ofBits_negInf : Ideal.ofBits .f32 0xFF800000#32 = ⊥ := by
  simp [Ideal.ofBits, Ideal.ieee]

/-- The positive infinity of the 32-bit floats is the greatest extended real. -/
theorem ofBits_posInf : Ideal.ofBits .f32 0x7F800000#32 = ⊤ := by
  simp [Ideal.ofBits, Ideal.ieee]

end VQ.Spec

end

end
-- ==== Proof.KerRead.lean ====
/-
  The kernel's values over the extended reals: what each block computes, read at an index, as the plain mathematics of
  the rows of logits of the tokens it covers.
-/
module

public import proofs.«01_k».proof.Proof.KernelRun
public import proofs.«01_k».proof.Proof.Spec

@[expose] public section

set_option maxRecDepth 16384

noncomputable section

namespace VQ.Ker

open Cert.KernelIdeal Cert.KernelIdeal.Gen Idealize.ShloMosaic Idealize.ShloMosaic.TcCoe VQ.Spec

/-! ## One block -/

section Block

variable (x : FVec Ideal S1x2048x1024 .f32) (w : FVec Ideal S2048x2048 .f32) (b : FVec Ideal S2048x1 .f32)
  (s : FVec Ideal S2x1024 .f32)

/-- The logits of the block, read at a group, a code and a lane. -/
abbrev lane (g : Fin 2) (l : Fin 1024) : Fin 1024 → EReal := fun v => k0_pay11 (F := Ideal) x w b (ix3 g v l)

/-- A logit of the block is a weighted sum of the lane's features and the bias. -/
theorem logit_apply (g : Fin 2) (v l : Fin 1024) : k0_pay11 (F := Ideal) x w b (ix3 g v l)
    = ∑ k : Fin 2048, w (ix2 (code g v) k) * x (ix3 0 k l) + b (ix2 (code g v) 0) := by
  pointwise [k0_pay11]

/-- The largest logit of each group and lane. -/
theorem max_apply (g : Fin 2) (l : Fin 1024) : k0_pay12 (F := Ideal) x w b (ix2 g l) = top (lane x w b g l) := by
  unfold top
  rw [← ofBits_negInf]
  pointwise [k0_pay12]

/-- The hard assignment of the block is the one-hot vector of the first largest logit. -/
theorem hard_apply (g : Fin 2) (v l : Fin 1024) : k0_pay13 (F := Ideal) x w b (ix3 g v l) = hot (lane x w b g l) v := by
  rw [← sitofp_cmpi_eq (fold_minsi_eq_iff (lane x w b g l) v), ← max_apply]
  pointwise [k0_pay13]

/-- The shifted exponentials of the block. -/
theorem exp_apply (g : Fin 2) (v l : Fin 1024) : k0_pay15 (F := Ideal) x w b (ix3 g v l) = shifted (lane x w b g l) v := by
  unfold shifted
  rw [← max_apply]
  pointwise [k0_pay15]

/-- The counts grow by the block's hard assignments. -/
theorem addCounts_apply (g : Fin 2) (v : Fin 1024) : addCounts (F := Ideal) x w b s (ix2 g v)
    = s (ix2 g v) + ∑ l : Fin 1024, hot (lane x w b g l) v := by
  simp only [← hard_apply]
  show k0_pay14 (F := Ideal) x w b s (ix2 g v) = _
  pointwise [k0_pay14]

/-- On real logits the sums of probabilities grow by the block's softmaxes. -/
theorem addProbs_apply (g : Fin 2) (v : Fin 1024) (h : ∀ l, Real' (lane x w b g l)) : addProbs (F := Ideal) x w b s (ix2 g v)
    = s (ix2 g v) + ∑ l : Fin 1024, soft (lane x w b g l) v := by
  simp only [← shifted_mul_div (h _), ← exp_apply]
  show k0_pay1 (F := Ideal) (k0_pay15 x w b) s (ix2 g v) = _
  generalize k0_pay15 (F := Ideal) x w b = p
  pointwise [k0_pay1]

/-- The code vectors of group 0. -/
theorem low_apply (p : FVec Ideal S2x1024x1024 .f32) (cb : FVec Ideal S1x256x1024 .f32) (d : Fin 256) (l : Fin 1024) :
    k0_pay2 (F := Ideal) p cb (ix3 0 d l) = ∑ j : Fin 1024, cb (ix3 0 d j) * p (ix3 0 j l) := by
  pointwise [k0_pay2]

/-- The code vectors of group 1. -/
theorem high_apply (p : FVec Ideal S2x1024x1024 .f32) (cb : FVec Ideal S1x256x1024 .f32) (d : Fin 256) (l : Fin 1024) :
    k0_pay3 (F := Ideal) p cb (ix3 0 d l) = ∑ j : Fin 1024, cb (ix3 0 d j) * p (ix3 1 j l) := by
  pointwise [k0_pay3]

/-- One group's part of the codebook block. -/
theorem part_apply (cb : FVec Ideal S2x256x1024 .f32) (g : Fin 2) (inb) (d : Fin 256) (j : Fin 1024) :
    View.ld (Val := Elt Ideal) (e' := .f32) cb (Rect.unit (s := S2x256x1024) ![g.val, 0, 0] S1x256x1024.size inb) (ix3 0 d j) = cb (ix3 g d j) :=
  View.ld_unit_apply_of (Val := Elt Ideal) (e := .f32) cb _ _ inb (ix3 0 d j) (ix3 g d j) fun a => match a with
    | ⟨0, _⟩ => (Nat.add_zero _).symm
    | ⟨1, _⟩ => (Nat.zero_add _).symm
    | ⟨2, _⟩ => (Nat.zero_add _).symm

/-- A position among a group's rows of the block of code vectors. -/
theorem place (o : ℕ) (inb) (r : Fin 512) (d : Fin 256) (l : Fin 1024) (hr : r.val = o + d.val) :
    (Rect.unit (s := S1x512x1024) ![0, o, 0] S1x256x1024.size inb).emb (ix3 0 d l) = ix3 0 r l := by
  funext a
  apply Fin.ext
  refine (Rect.idx_unit_val _ _ inb _ a).trans ?_
  match a with
  | ⟨0, _⟩ => rfl
  | ⟨1, _⟩ => exact hr.symm
  | ⟨2, _⟩ => exact Nat.zero_add _

/-- Two stores read back where only the earlier one reaches. -/
theorem canon_second {S : Shape} {e : EltTy} (q r : Rect S) (B : q.shape.Idx → Elt Ideal e) (A : r.shape.Idx → Elt Ideal e)
    (y : S.Idx) (z : r.shape.Idx) (hn : y ∉ q.set) (hy : r.emb z = y) :
    View.canon (Val := Elt Ideal) [⟨q, B⟩, ⟨r, A⟩] y = A z := by
  rw [View.canon_cons_of_not_mem _ _ hn, ← hy]
  exact View.canon_cons_emb r A [] z

/-- Two stores read back where the later one reaches. -/
theorem canon_first {S : Shape} {e : EltTy} (q r : Rect S) (B : q.shape.Idx → Elt Ideal e) (A : r.shape.Idx → Elt Ideal e)
    (y : S.Idx) (z : q.shape.Idx) (hy : q.emb z = y) :
    View.canon (Val := Elt Ideal) [⟨q, B⟩, ⟨r, A⟩] y = B z := by
  rw [← hy]
  exact View.canon_cons_emb q B _ z

/-- The first 256 rows lie outside the second group's store. -/
theorem outside (r : Fin 512) (l : Fin 1024) (h : r.val < 256) : (ix3 0 r l : S1x512x1024.Idx)
    ∉ (Rect.unit (s := S1x512x1024) ![0, 256, 0] S1x256x1024.size inb_S1x512x1024_S1x256x1024_0_256_0).set := by
  rw [Rect.mem_set_unit]
  intro q
  have h1 : 256 ≤ r.val := (q 1).1
  omega

/-- The block of code vectors: each row the codebook's, weighted by the hard assignment. -/
theorem lookup_apply (cb : FVec Ideal S2x256x1024 .f32) (r : Fin 512) (l : Fin 1024) :
    lookup (F := Ideal) x w b cb (ix3 0 r l)
      = ∑ j : Fin 1024, cb (ix3 ⟨r.val / 256, by omega⟩ ⟨r.val % 256, by omega⟩ j)
        * hot (lane x w b ⟨r.val / 256, by omega⟩ l) j := by
  simp only [← hard_apply]
  unfold lookup lookupPieces
  generalize k0_pay13 (F := Ideal) x w b = p
  by_cases h : r.val < 256
  · have e0 : (⟨r.val / 256, by omega⟩ : Fin 2) = 0 := Fin.ext (Nat.div_eq_of_lt h)
    have e1 : (⟨r.val % 256, by omega⟩ : Fin 256) = ⟨r.val, h⟩ := Fin.ext (Nat.mod_eq_of_lt h)
    rw [e0, e1]
    refine (canon_second _ _ _ _ _ _ (outside r l h) (place 0 _ r ⟨r.val, h⟩ l (Nat.zero_add _).symm)).trans ((low_apply p _ ⟨r.val, h⟩ l).trans ?_)
    exact Finset.sum_congr rfl fun j _ => congrArg (· * p (ix3 0 j l)) (part_apply cb 0 _ ⟨r.val, h⟩ j)
  · have e0 : (⟨r.val / 256, by omega⟩ : Fin 2) = 1 := Fin.ext (by show r.val / 256 = 1; omega)
    have e1 : (⟨r.val % 256, by omega⟩ : Fin 256) = ⟨r.val - 256, by omega⟩ := Fin.ext (by show r.val % 256 = r.val - 256; omega)
    rw [e0, e1]
    refine (canon_first _ _ _ _ _ _ (place 256 _ r ⟨r.val - 256, by omega⟩ l (by show r.val = 256 + (r.val - 256); omega))).trans
      ((high_apply p _ ⟨r.val - 256, by omega⟩ l).trans ?_)
    exact Finset.sum_congr rfl fun j _ => congrArg (· * p (ix3 1 j l)) (part_apply cb 1 _ ⟨r.val - 256, by omega⟩ j)

end Block

/-! ## The perplexities -/

/-- The zero the counts start from. -/
theorem zeroCounts (g : Fin 2) (v : Fin 1024) : k0_pay9 (F := Ideal) (ix2 g v) = 0 := by
  pointwise [k0_pay9]

/-- The zero the sums of probabilities start from. -/
theorem zeroProbs (g : Fin 2) (v : Fin 1024) : k0_pay10 (F := Ideal) (ix2 g v) = 0 := by
  pointwise [k0_pay10]

/-- The perplexity of the counts. -/
theorem codePerp (s : FVec Ideal S2x1024 .f32) :
    shapeCast S_ (k0_pay6 (F := Ideal) s) shapeCasts_S1x1_S_ ix0 = perp fun g v => s (ix2 g v) := by
  unfold perp
  simp only [← zero_sub]
  pointwise [k0_pay6]

/-- The perplexity of the sums of probabilities. -/
theorem probPerp (s : FVec Ideal S2x1024 .f32) :
    shapeCast S_ (k0_pay7 (F := Ideal) s) shapeCasts_S1x1_S_ ix0 = perp fun g v => s (ix2 g v) := by
  unfold perp
  simp only [← zero_sub]
  pointwise [k0_pay7, k0_pay5]

/-- The diversity. -/
theorem diversity (s : FVec Ideal S2x1024 .f32) :
    shapeCast S_ (k0_pay4 (F := Ideal) (k0_pay8 s)) shapeCasts_S1x1_S_ ix0 = lack (perp fun g v => s (ix2 g v)) := by
  unfold lack perp
  simp only [← zero_sub]
  pointwise [k0_pay4, k0_pay8, k0_pay5]

end VQ.Ker

end

end
-- ==== Proof.KerValue.lean ====
/-
  The kernel's four results over the extended reals, in terms of the rows of logits of all 8192 tokens.
-/
module

public import proofs.«01_k».proof.Proof.KerRead

@[expose] public section

set_option maxRecDepth 16384

noncomputable section

namespace VQ.Ker

open Cert.KernelIdeal Cert.KernelIdeal.Gen Idealize.ShloMosaic Idealize.ShloMosaic.TcCoe VQ.Spec

/-! ## Sums over the grid -/

/-- A running total is the sum of what its steps added. -/
theorem running {N : ℕ} (f : (n : ℕ) → n < N → EReal) (T : Fin N → EReal) (h0 : ∀ h, f 0 h = T ⟨0, h⟩)
    (hs : ∀ n h, f (n + 1) h = f n (Nat.lt_of_succ_lt h) + T ⟨n + 1, h⟩) :
    ∀ n (h : n < N), f n h = ∑ i : Fin (n + 1), T ⟨i.val, lt_of_le_of_lt (Nat.le_of_lt_succ i.isLt) h⟩
  | 0, h => by rw [h0]; simp
  | n + 1, h => by
    rw [hs, running f T h0 hs n]
    exact (Fin.sum_univ_castSucc fun i : Fin (n + 1 + 1) => T ⟨i.val, lt_of_le_of_lt (Nat.le_of_lt_succ i.isLt) h⟩).symm

/-- Eight tiles of 1024 tokens are the 8192 tokens. -/
theorem tiles (f : Fin 8192 → EReal) : ∑ t : Fin 8, ∑ l : Fin 1024, f ⟨t.val * 1024 + l.val, by omega⟩ = ∑ n, f n :=
  (Fin.sum_univ_tiles 8 1024 rfl f).symm

/-! ## The blocks' logits -/

section Results

variable (m : (ℓ : Loc nD τ sig) → Buf (Elt Ideal) ℓ) (c : Dev nD)

/-- The logits of a token in a group. -/
abbrev tok (n : Fin 8192) (g : Fin 2) : Fin 1024 → EReal :=
  row (fun i k t => m ((c.tc : Thread nD τ).loc main_arg0) (ix3 i k t : S4x2048x2048.Idx))
    (fun i k => m ((c.tc : Thread nD τ).loc main_arg1) (ix2 i k : S2048x2048.Idx))
    (fun i => m ((c.tc : Thread nD τ).loc main_arg2) (ix1 i : S2048.Idx)) n g

/-- The codebook. -/
abbrev book : FVec Ideal S1x2x1024x256 .f32 := m ((c.tc : Thread nD τ).loc main_arg3)

/-- A number per code as a column, read at a row. -/
theorem column_apply (b : FVec Ideal S2048 .f32) (i : Fin 2048) :
    shapeCast S2048x1 b shapeCasts_S2048_S2048x1 (ix2 i 0) = b (ix1 i) := by
  pointwise []

/-- The codebook as the kernel lays it out, read at a group, a feature and a code. -/
theorem book_apply (C : FVec Ideal S1x2x1024x256 .f32) (g : Fin 2) (d : Fin 256) (j : Fin 1024) :
    transpose S2x256x1024 [0, 2, 1] (shapeCast S2x1024x256 C shapeCasts_S1x2x1024x256_S2x1024x256)
      transposes_S2x1024x256_S2x256x1024_0_2_1 (ix3 g d j) = C (ix4 0 g j d) := by
  pointwise []

/-- Lane `l` of point `t`'s block holds the logits of token `1024 · t + l`. -/
theorem lane_eq (t : Fin cfg0.N) (g : Fin 2) (l : Fin 1024) (n : Fin 8192) (hn : n.val = t.val * 1024 + l.val) :
    lane (iblk m c 0 t) (iblk m c 1 t) (iblk m c 2 t) g l = tok m c n g := by
  funext v
  rw [lane, logit_apply, block_w, block_b, column_apply]
  unfold tok row
  refine congrArg (· + _) (Finset.sum_congr rfl fun k _ => ?_)
  rw [block_x m c t k l (batch n) (time n) (by show n.val / 2048 = _; omega) (by show n.val % 2048 = _; omega)]
  exact mul_comm _ _

/-- The number of grid points. -/
theorem points : cfg0.N = 8 := N_0

/-- The counts after the last point: how many tokens take each code. -/
theorem counts_eq (g : Fin 2) (v : Fin 1024) :
    countsAt m c 7 lt7 (ix2 g v : S2x1024.Idx) = ∑ n : Fin 8192, hot (tok m c n g) v := by
  have hN := points
  rw [← tiles fun n => hot (tok m c n g) v]
  refine (running (fun n h => countsAt m c n h (ix2 g v : S2x1024.Idx))
    (fun t => ∑ l : Fin 1024, hot (tok m c ⟨t.val * 1024 + l.val, by have := t.isLt; omega⟩ g) v) (fun h => ?_) (fun n h => ?_) 7 lt7)
  · show addCounts (F := Ideal) _ _ _ _ (ix2 g v) = _
    rw [addCounts_apply, zeroCounts, zero_add]
    exact Finset.sum_congr rfl fun l _ => congrFun (congrArg hot (lane_eq m c _ g l _ rfl)) v
  · show addCounts (F := Ideal) _ _ _ _ (ix2 g v) = _
    rw [addCounts_apply]
    exact congrArg (_ + ·) (Finset.sum_congr rfl fun l _ => congrFun (congrArg hot (lane_eq m c _ g l _ rfl)) v)

/-- The sums of probabilities after the last point, when every logit is real. -/
theorem probs_eq (hr : ∀ n g, Real' (tok m c n g)) (g : Fin 2) (v : Fin 1024) :
    probsAt m c 7 lt7 (ix2 g v : S2x1024.Idx) = ∑ n : Fin 8192, soft (tok m c n g) v := by
  have hN := points
  rw [← tiles fun n => soft (tok m c n g) v]
  have hl : ∀ (t : Fin cfg0.N) (l : Fin 1024), Real' (lane (iblk m c 0 t) (iblk m c 1 t) (iblk m c 2 t) g l) := fun t l => by
    rw [lane_eq m c t g l ⟨t.val * 1024 + l.val, by have := t.isLt; omega⟩ rfl]
    exact hr _ _
  refine (running (fun n h => probsAt m c n h (ix2 g v : S2x1024.Idx))
    (fun t => ∑ l : Fin 1024, soft (tok m c ⟨t.val * 1024 + l.val, by have := t.isLt; omega⟩ g) v) (fun h => ?_) (fun n h => ?_) 7 lt7)
  · show addProbs (F := Ideal) _ _ _ _ (ix2 g v) = _
    rw [addProbs_apply _ _ _ _ g v (hl _), zeroProbs, zero_add]
    exact Finset.sum_congr rfl fun l _ => congrFun (congrArg soft (lane_eq m c _ g l _ rfl)) v
  · show addProbs (F := Ideal) _ _ _ _ (ix2 g v) = _
    rw [addProbs_apply _ _ _ _ g v (hl _)]
    exact congrArg (_ + ·) (Finset.sum_congr rfl fun l _ => congrFun (congrArg soft (lane_eq m c _ g l _ rfl)) v)

/-- A function of three coordinates, as an array read at them. -/
theorem at_three {α : Type} (G : Fin 4 → Fin 512 → Fin 2048 → α) (i : Fin 4) (r : Fin 512) (T : Fin 2048) :
    (fun y : S4x512x2048.Idx => G (y 0) (y 1) (y 2)) (ix3 i r T) = G i r T := rfl

/-- The block entry that holds a batch entry's feature at a time step. -/
def codeEntry (i : Fin 4) (r : Fin 512) (T : Fin 2048) : EReal :=
  lookup (F := Ideal) (iblk m c 0 (pointOf i T)) (iblk m c 1 (pointOf i T)) (iblk m c 2 (pointOf i T)) (iblk m c 3 (pointOf i T))
    (ix3 0 r ⟨T.val % 1024, Nat.mod_lt _ (by decide)⟩)

/-- The array of looked-up code vectors is made of the points' blocks. -/
theorem codes_def : codes m c = fun y => codeEntry m c (y 0) (y 1) (y 2) := by
  unfold codes codeEntry
  rfl

/-- The codebook block at every point, read at a group, a feature and a code. -/
theorem block_book (t : Fin cfg0.N) (g : Fin 2) (d : Fin 256) (j : Fin 1024) :
    iblk m c 3 t (ix3 g d j : S2x256x1024.Idx)
      = book m c (ix4 0 g j d) :=
  (congrFun (block_cb m c t) (ix3 g d j)).trans (book_apply _ g d j)

/-- The array of looked-up code vectors, at a batch entry, a feature and a time step. -/
theorem codes_apply (i : Fin 4) (r : Fin 512) (T : Fin 2048) : codes m c (ix3 i r T : S4x512x2048.Idx)
    = ∑ j : Fin 1024, book m c (ix4 0 ⟨r.val / 256, by omega⟩ j ⟨r.val % 256, by omega⟩)
      * hot (tok m c ⟨i.val * 2048 + T.val, by omega⟩ ⟨r.val / 256, by omega⟩) j := by
  rw [codes_def, at_three (codeEntry m c) i r T]
  refine (lookup_apply _ _ _ _ r _).trans (Finset.sum_congr rfl fun j _ => ?_)
  rw [lane_eq m c (pointOf i T) _ _ ⟨i.val * 2048 + T.val, by omega⟩
    (by show i.val * 2048 + T.val = (2 * i.val + T.val / 1024) * 1024 + T.val % 1024; omega)]
  exact congrArg (· * _) (block_book m c (pointOf i T) _ _ j)

end Results

end VQ.Ker

end

end
-- ==== Proof.RefRead.lean ====
/-
  The reference's values over the extended reals, read at an index: each is the plain mathematics of the row of
  logits of its token.
-/
module

public import proofs.«01_k».proof.Proof.RefVals
public import proofs.«01_k».proof.Proof.Spec
public import Idealize.ShloMosaic.Lib.Pointwise

@[expose] public section

set_option maxRecDepth 16384

noncomputable section

namespace VQ.Ref

open Cert.ReferenceIdeal Cert.ReferenceIdeal.Gen Idealize.ShloMosaic Idealize.ShloMosaic.TcCoe VQ.Spec

/-! ## The argmax of a row -/

/-- One step of the argmax: the greater value, on equal values the smaller index. -/
theorem argmax_step (a c : EReal × BitVec 32) :
    reducer_argmax_f32_i32 (F := Ideal) a c
      = if c.1 < a.1 then a else if a.1 = c.1 ∧ a.2.toInt < c.2.toInt then (c.1, a.2) else c := by
  unfold reducer_argmax_f32_i32
  simp only [Ideal.cmpf_def, Ideal.cmp]
  by_cases h1 : c.1 < a.1
  · simp [h1, h1.ne', IntOp.ori, IntOp.andi, Scalar.select]
  · by_cases h2 : a.1 = c.1
    · by_cases h3 : a.2.toInt < c.2.toInt
      · simp [h2, h3, IntOp.ori, IntOp.andi, IntOp.cmpi, Scalar.select, BitVec.slt]
      · simp [h2, h3, IntOp.ori, IntOp.andi, IntOp.cmpi, Scalar.select, BitVec.slt]
    · simp [h1, h2, IntOp.ori, IntOp.andi, Scalar.select]

/-- The argmax over a list from a starting pair ends with one of the pairs; no value exceeds its value, and no pair with its
    value has a smaller index. -/
theorem argmax_fold (l : List (EReal × BitVec 32)) (s : EReal × BitVec 32) :
    l.foldl (reducer_argmax_f32_i32 (F := Ideal)) s ∈ s :: l
      ∧ ∀ p ∈ s :: l, p.1 ≤ (l.foldl (reducer_argmax_f32_i32 (F := Ideal)) s).1
        ∧ (p.1 = (l.foldl (reducer_argmax_f32_i32 (F := Ideal)) s).1
          → (l.foldl (reducer_argmax_f32_i32 (F := Ideal)) s).2.toInt ≤ p.2.toInt) := by
  induction l generalizing s with
  | nil => exact ⟨List.mem_singleton.2 rfl, fun p hp => by rw [List.mem_singleton.1 hp]; exact ⟨le_rfl, fun _ => le_rfl⟩⟩
  | cons c l ih =>
    rw [List.foldl_cons]
    obtain ⟨h1, h2⟩ := ih (reducer_argmax_f32_i32 (F := Ideal) s c)
    generalize (l.foldl (reducer_argmax_f32_i32 (F := Ideal)) (reducer_argmax_f32_i32 (F := Ideal) s c)) = r at h1 h2
    have hstep : reducer_argmax_f32_i32 (F := Ideal) s c = s ∨ reducer_argmax_f32_i32 (F := Ideal) s c = c := by
      rw [argmax_step]
      split
      · exact Or.inl rfl
      · split
        · next h => exact Or.inl (Prod.ext h.1.symm rfl)
        · exact Or.inr rfl
    have hbeats : ∀ p, p = s ∨ p = c → p.1 ≤ (reducer_argmax_f32_i32 (F := Ideal) s c).1
        ∧ (p.1 = (reducer_argmax_f32_i32 (F := Ideal) s c).1
          → (reducer_argmax_f32_i32 (F := Ideal) s c).2.toInt ≤ p.2.toInt) := by
      rw [argmax_step]
      split
      · next h =>
        rintro p (rfl | rfl)
        · exact ⟨le_rfl, fun _ => le_rfl⟩
        · exact ⟨h.le, fun e => absurd e h.ne⟩
      · next h =>
        split
        · next h' =>
          rintro p (rfl | rfl)
          · exact ⟨h'.1.le, fun _ => le_rfl⟩
          · exact ⟨le_rfl, fun _ => h'.2.le⟩
        · next h' =>
          rintro p (rfl | rfl)
          · exact ⟨not_lt.1 h, fun e => not_lt.1 fun q => h' ⟨e, q⟩⟩
          · exact ⟨le_rfl, fun _ => le_rfl⟩
    refine ⟨?_, fun p hp => ?_⟩
    · rcases List.mem_cons.1 h1 with h | h
      · rcases hstep with e | e <;> rw [h, e] <;> simp
      · exact List.mem_cons_of_mem _ (List.mem_cons_of_mem _ h)
    · have hR := h2 _ (List.mem_cons_self (a := reducer_argmax_f32_i32 (F := Ideal) s c) (l := l))
      have two : p = s ∨ p = c → p.1 ≤ r.1 ∧ (p.1 = r.1 → r.2.toInt ≤ p.2.toInt) := fun h => by
        have hb := hbeats p h
        exact ⟨hb.1.trans hR.1, fun e => (hR.2 (le_antisymm hR.1 (e ▸ hb.1))).trans (hb.2 (le_antisymm hb.1 (e ▸ hR.1)))⟩
      rcases List.mem_cons.1 hp with h | h
      · exact two (Or.inl h)
      · rcases List.mem_cons.1 h with h | h
        · exact two (Or.inr h)
        · exact h2 p (List.mem_cons_of_mem _ h)

/-- For a reduction whose fibre at `j` is listed by `e`, with the index operand counting that list, the argmax at `j` is the
    first place the largest of the listed entries stands at. -/
theorem argIndex_eq_iff {s t u : Shape} {axes : List (Fin s.rank)} (h : s.ReducesTo axes t) (hu : 0 < u.numel)
    (y : FVec Ideal s .f32) (z : IVec s 32) (ix : FVec Ideal u .f32) (iy : IVec u 32) (j : t.Idx) (e : Fin 1024 → s.Idx)
    (he : ∀ i, h.drop i = j ↔ ∃ k, i = e k) (hz : ∀ k, z (e k) = BitVec.ofNat 32 k.val)
    (hix : ix (Shape.Idx.first hu) = (⊥ : EReal)) (hiy : iy (Shape.Idx.first hu) = 0#32) (v : Fin 1024) :
    argIndex (F := Ideal) h hu y z ix iy j = BitVec.ofNat 32 v.val
      ↔ IsFirst (fun k => y (e k)) v := by
  unfold argIndex
  rw [Ideal.argReduce_eq_reduce2, Host.reduce2_eq_foldl_fiber, hix, hiy]
  have hm : ∀ p, p ∈ Host.argReduceFiber y z h j ↔ ∃ k, p = (y (e k), BitVec.ofNat 32 k.val) := fun p => by
    unfold Host.argReduceFiber
    simp only [List.mem_map, List.mem_filter, List.mem_finRange, true_and, decide_eq_true_eq]
    constructor
    · rintro ⟨n, hn, rfl⟩
      obtain ⟨k, hk⟩ := (he _).1 hn
      exact ⟨k, by rw [hk, hz]⟩
    · rintro ⟨k, rfl⟩
      exact ⟨s.rowMajor (e k), by rw [Equiv.symm_apply_apply]; exact (he _).2 ⟨k, rfl⟩, by rw [Equiv.symm_apply_apply, hz]⟩
  obtain ⟨h1, h2⟩ := argmax_fold (Host.argReduceFiber y z h j) (⊥, 0#32)
  generalize Host.argReduceFiber y z h j = l at hm h1 h2 ⊢
  generalize l.foldl (reducer_argmax_f32_i32 (F := Ideal)) (⊥, 0#32) = q at h1 h2 ⊢
  have hle : ∀ k : Fin 1024, y (e k) ≤ q.1 := fun k => (h2 _ (List.mem_cons_of_mem _ ((hm _).2 ⟨k, rfl⟩))).1
  have hmin : ∀ k : Fin 1024, y (e k) = q.1 → q.2.toInt ≤ (k.val : ℤ) := fun k e' => by
    have := (h2 _ (List.mem_cons_of_mem _ ((hm _).2 ⟨k, rfl⟩))).2 e'
    rwa [toInt_ofNat (by omega)] at this
  have hex : ∃ k : Fin 1024, q.1 = y (e k) ∧ q.2 = BitVec.ofNat 32 k.val := by
    rcases List.mem_cons.1 h1 with h | h
    · refine ⟨0, ?_, ?_⟩
      · have := hle 0
        rw [h] at this ⊢
        exact (le_bot_iff.1 this).symm
      · rw [h]; rfl
    · obtain ⟨k, hk⟩ := (hm _).1 h
      exact ⟨k, by rw [hk], by rw [hk]⟩
  obtain ⟨k, hk1, hk2⟩ := hex
  have htop : top (fun k => y (e k)) = q.1 := by
    rw [hk1]
    exact top_eq_of_forall_le (fun k => y (e k)) k fun j => hk1 ▸ hle j
  have hfirst : ∀ j, j < k → y (e j) ≠ top (fun k => y (e k)) := fun j hj e' => by
    have := hmin j (e'.trans htop)
    rw [hk2, toInt_ofNat (by omega)] at this
    have hj' : j.val < k.val := hj
    omega
  rw [hk2]
  constructor
  · intro e'
    have : k = v := Fin.ext (by
      have := congrArg BitVec.toInt e'
      rw [toInt_ofNat (by omega), toInt_ofNat (by omega)] at this
      omega)
    subst this
    exact ⟨(hk1.symm.trans htop.symm), hfirst⟩
  · rintro ⟨he', hlt⟩
    have : k = v := by
      rcases lt_trichotomy k v with h | h | h
      · exact absurd (hk1.symm.trans htop.symm) (hlt k h)
      · exact h
      · exact absurd he' (hfirst v h)
    rw [this]

/-- Inserting the dropped column into a row's index. -/
theorem lift_row (h : S16384x1024.Reduces [1] S16384) (r : Fin 16384) (k : Fin 1024) : h.lift (ix1 r) k = ix2 r k := by
  funext a
  match a with
  | ⟨0, _⟩ => rfl
  | ⟨1, _⟩ => rfl

/-- The entries of row `r` are those its index drops to. -/
theorem drop_row (h' : S16384x1024.ReducesTo [1] S16384) (r : Fin 16384) (i : S16384x1024.Idx) :
    h'.drop i = ix1 r ↔ ∃ k : Fin 1024, i = ix2 r k := by
  have h : S16384x1024.Reduces [1] S16384 := by decide
  rw [Shape.ReducesTo.drop_eq_drop h' h]
  constructor
  · intro hi
    have e := h.lift_drop i
    rw [hi] at e
    exact ⟨i 1, e.symm.trans (lift_row h r (i 1))⟩
  · rintro ⟨k, rfl⟩
    exact (congrArg h.drop (lift_row h r k).symm).trans (h.drop_lift (ix1 r) k)

/-- The argmax as an instance of the general one. -/
theorem argmax_def (y : FVec Ideal S16384x1024 .f32) : argmax (F := Ideal) y
    = argIndex reducesTo_S16384x1024_S16384_d1 h_S_ y (iotaInDim S16384x1024 32 1) (constant (F := Ideal) S_ .f32 0xFF800000#32)
      (constantI S_ 32 0#32) := rfl

/-- The argmax of a row is the first place its largest entry stands at. -/
theorem argmax_eq_iff (y : FVec Ideal S16384x1024 .f32) (r : Fin 16384) (v : Fin 1024) :
    argmax (F := Ideal) y (ix1 r) = BitVec.ofNat 32 v.val ↔ IsFirst (fun k => y (ix2 r k)) v := by
  rw [argmax_def]
  exact argIndex_eq_iff reducesTo_S16384x1024_S16384_d1 h_S_ y (iotaInDim S16384x1024 32 1) (constant S_ .f32 0xFF800000#32)
    (constantI S_ 32 0#32) (ix1 r) (fun k => ix2 r k) (drop_row _ r) (fun k => rfl) ofBits_negInf rfl v

/-! ## The hard assignment -/

/-- A one-hot row at a column. -/
theorem oneHot_apply (k : IVec S16384 32) (r : Fin 16384) (v : Fin 1024) : oneHot (F := Ideal) k (ix2 r v)
    = FloatOps.uitofp .f32 (IntOp.cmpi .eq (k (ix1 r)) (BitVec.ofNat 32 v.val)) := by
  pointwise [oneHot]

/-- Rows two to a token, read at a token, a group and a code. -/
theorem rows_apply (y : FVec Ideal S16384x1024 .f32) (n : Fin 8192) (g : Fin 2) (v : Fin 1024) :
    shapeCast S8192x2x1024 y shapeCasts_S16384x1024_S8192x2x1024 (ix3 n g v) = y (ix2 ⟨n.val * 2 + g.val, by omega⟩ v) :=
  shapeCast_apply y shapeCasts_S16384x1024_S8192x2x1024 (ix3 n g v) (ix2 ⟨n.val * 2 + g.val, by omega⟩ v)
    (by rewrite [Shape.rowMajor_val_two, Shape.rowMajor_val_three]; rfl)

/-- The rows of a token's two groups, read in the token's own row. -/
theorem halves_apply (l : FVec Ideal S8192x2048 .f32) (n : Fin 8192) (g : Fin 2) (v : Fin 1024) :
    shapeCast S16384x1024 l shapeCasts_S8192x2048_S16384x1024 (ix2 ⟨n.val * 2 + g.val, by omega⟩ v) = l (ix2 n (code g v)) :=
  shapeCast_apply l shapeCasts_S8192x2048_S16384x1024 (ix2 ⟨n.val * 2 + g.val, by omega⟩ v) (ix2 n (code g v))
    (by
      rewrite [Shape.rowMajor_val_two, Shape.rowMajor_val_two]
      show n.val * 2048 + (g.val * 1024 + v.val) = (n.val * 2 + g.val) * 1024 + v.val
      omega)

/-- The hard assignment of a token in a group is the one-hot vector of the first largest logit. -/
theorem hard_apply (l : FVec Ideal S8192x2048 .f32) (n : Fin 8192) (g : Fin 2) (v : Fin 1024) :
    hard (F := Ideal) l (ix3 n g v) = hot (fun k => l (ix2 n (code g k))) v := by
  unfold hard
  rw [rows_apply, oneHot_apply]
  refine uitofp_cmpi_eq ((argmax_eq_iff _ _ v).trans ?_)
  rw [show (fun k : Fin 1024 => shapeCast S16384x1024 l shapeCasts_S8192x2048_S16384x1024 (ix2 ⟨n.val * 2 + g.val, by omega⟩ k))
    = fun k => l (ix2 n (code g k)) from funext fun k => halves_apply l n g k]

/-! ## The softmax -/

/-- Inserting the dropped code index. -/
theorem lift_code (h : S8192x2x1024.Reduces [2] S8192x2) (n : Fin 8192) (g : Fin 2) (k : Fin 1024) :
    h.lift (ix2 n g) k = ix3 n g k := by
  funext a
  match a with
  | ⟨0, _⟩ => rfl
  | ⟨1, _⟩ => rfl
  | ⟨2, _⟩ => rfl

/-- The maximum along the codes is the largest entry of the row. -/
theorem rowMax_apply (y : FVec Ideal S8192x2x1024 .f32) (n : Fin 8192) (g : Fin 2) :
    Host.reduce FloatOps.maximumf y (constant (F := Ideal) S_ .f32 0xFF800000#32) reducesTo_S8192x2x1024_S8192x2_d2 h_S_ (ix2 n g)
      = top fun k => y (ix3 n g k) := by
  have h : S8192x2x1024.Reduces [2] S8192x2 := by decide
  rw [Host.reduce_eq_fold_single FloatOps.maximumf y _ reducesTo_S8192x2x1024_S8192x2_d2 h h_S_ (ix2 n g)]
  have e : (y ∘ h.lift (ix2 n g)) = fun k : Fin 1024 => y (ix3 n g k) := funext fun k => congrArg y (lift_code h n g k)
  have hb : (constant (F := Ideal) S_ .f32 0xFF800000#32) (Shape.Idx.first h_S_) = (⊥ : EReal) := ofBits_negInf
  rw [e, hb]
  rfl

/-- A number per token and group, repeated along the codes. -/
theorem spread_apply (M : FVec Ideal S8192x2 .f32) (n : Fin 8192) (g : Fin 2) (v : Fin 1024) :
    broadcastInDim S8192x2x1024 ![0, 1, 2] bcast_S8192x2x1_S8192x2x1024_0_1_2
      (broadcastInDim S8192x2x1 ![0, 1] bcast_S8192x2_S8192x2x1_0_1 M) (ix3 n g v) = M (ix2 n g) := by
  pointwise []

/-- The maximum of negative infinity and a number is the number. -/
theorem floor_apply (M : FVec Ideal S8192x2 .f32) (n : Fin 8192) (g : Fin 2) :
    maximumf (broadcastInDim S8192x2 ![] bcast_S_S8192x2 (constant S_ .f32 0xFF800000#32)) M (ix2 n g) = M (ix2 n g) := by
  have e : broadcastInDim S8192x2 ![] bcast_S_S8192x2 (constant (F := Ideal) S_ .f32 0xFF800000#32) (ix2 n g) = (⊥ : EReal) :=
    (broadcastInDim_apply _ bcast_S_S8192x2 (constant (F := Ideal) S_ .f32 0xFF800000#32) (ix2 n g) ix0 (fun a => a.elim0)).trans
      ofBits_negInf
  show max _ (M (ix2 n g)) = M (ix2 n g)
  rw [e]
  exact max_eq_right bot_le

/-- The shifted exponential at an entry. -/
theorem shiftedExp_apply (y : FVec Ideal S8192x2x1024 .f32) (n : Fin 8192) (g : Fin 2) (v : Fin 1024) :
    shiftedExp (F := Ideal) y (ix3 n g v) = shifted (fun k => y (ix3 n g k)) v := by
  unfold shiftedExp shifted
  rw [← rowMax_apply y n g]
  generalize Host.reduce FloatOps.maximumf y (constant (F := Ideal) S_ .f32 0xFF800000#32) reducesTo_S8192x2x1024_S8192x2_d2 h_S_ = M
  rw [← floor_apply M n g]
  generalize maximumf (broadcastInDim S8192x2 ![] bcast_S_S8192x2 (constant S_ .f32 0xFF800000#32)) M = M'
  rw [← spread_apply M' n g v]
  rfl

/-- The softmax at an entry. -/
theorem softmax_apply (y : FVec Ideal S8192x2x1024 .f32) (n : Fin 8192) (g : Fin 2) (v : Fin 1024) :
    softmax (F := Ideal) y (ix3 n g v) = Spec.soft (fun k => y (ix3 n g k)) v := by
  have e : softmax (F := Ideal) y (ix3 n g v)
      = Ideal.div (shiftedExp (F := Ideal) y (ix3 n g v)) (∑ j : Fin 1024, shiftedExp (F := Ideal) y (ix3 n g j)) := by
    unfold softmax
    generalize shiftedExp (F := Ideal) y = p
    pointwise []
  rw [e, shiftedExp_apply]
  unfold Spec.soft
  exact congrArg _ (Finset.sum_congr rfl fun j _ => shiftedExp_apply y n g j)

/-! ## The logits -/

/-- The logit of a token for a code. -/
theorem logits_apply (x : FVec Ideal S4x2048x2048 .f32) (w : FVec Ideal S2048x2048 .f32) (b : FVec Ideal S2048 .f32)
    (n : Fin 8192) (g : Fin 2) (v : Fin 1024) : logits (F := Ideal) x w b (ix2 n (code g v))
      = row (fun i k t => x (ix3 i k t)) (fun i k => w (ix2 i k)) (fun i => b (ix1 i)) n g v := by
  pointwise [logits]
  rfl

/-- The grouped logits, read in a token's row. -/
theorem grouped_apply (l : FVec Ideal S8192x2048 .f32) (n : Fin 8192) (g : Fin 2) (v : Fin 1024) :
    grouped (F := Ideal) l (ix3 n g v) = l (ix2 n (code g v)) := by
  pointwise [grouped]

/-- The softmax at temperature two, read in a token's row. -/
theorem soft_apply (l : FVec Ideal S8192x2048 .f32) (n : Fin 8192) (g : Fin 2) (v : Fin 1024) : soft (F := Ideal) l (ix3 n g v)
    = Spec.soft (fun k => Ideal.div (l (ix2 n (code g k))) (Ideal.ofBits .f32 0x40000000#32)) v := by
  unfold soft
  rw [softmax_apply]
  refine congrFun (congrArg Spec.soft (funext fun k => ?_)) v
  rw [← grouped_apply l n g k]
  generalize grouped l = q
  pointwise []

/-! ## The results -/

variable (x : FVec Ideal S4x2048x2048 .f32) (w : FVec Ideal S2048x2048 .f32) (b : FVec Ideal S2048 .f32)
  (C : FVec Ideal S1x2x1024x256 .f32)

/-- The logits of a token in a group. -/
abbrev tok (n : Fin 8192) (g : Fin 2) : Fin 1024 → EReal :=
  row (fun i k t => x (ix3 i k t)) (fun i k => w (ix2 i k)) (fun i => b (ix1 i)) n g

/-- The perplexity of a mean over the tokens. -/
theorem perplexity_mean (y : FVec Ideal S8192x2x1024 .f32) :
    perplexity (F := Ideal) (tokenMean y) ix0 = perp fun g v => ∑ n : Fin 8192, y (ix3 n g v) := by
  have hm : ∀ (g : Fin 2) (v : Fin 1024), tokenMean (F := Ideal) y (ix2 g v)
      = Ideal.div (∑ n : Fin 8192, y (ix3 n g v)) (Ideal.ofBits .f32 0x46000000#32) := fun g v => by
    pointwise [tokenMean]
  unfold perp
  simp only [← hm]
  generalize tokenMean y = s
  pointwise [perplexity]

/-- The code perplexity is that of the hard assignments. -/
theorem codePerplexity_eq : codePerplexity (F := Ideal) x w b ix0 = perp fun g v => ∑ n : Fin 8192, hot (tok x w b n g) v := by
  unfold codePerplexity
  rw [perplexity_mean]
  refine congrArg perp (funext fun g => funext fun v => Finset.sum_congr rfl fun n _ => ?_)
  rw [hard_apply]
  exact congrFun (congrArg hot (funext fun k => logits_apply x w b n g k)) v

/-- The probability perplexity is that of the softmax. -/
theorem probPerplexity_eq :
    probPerplexity (F := Ideal) x w b ix0 = perp fun g v => ∑ n : Fin 8192, Spec.soft (tok x w b n g) v := by
  unfold probPerplexity
  rw [perplexity_mean]
  refine congrArg perp (funext fun g => funext fun v => Finset.sum_congr rfl fun n _ => ?_)
  rw [softmax_apply]
  exact congrFun (congrArg Spec.soft (funext fun k => (grouped_apply _ n g k).trans (logits_apply x w b n g k))) v

/-- The diversity is the lack of the probability perplexity. -/
theorem diversity_eq :
    diversity (F := Ideal) x w b ix0 = lack (perp fun g v => ∑ n : Fin 8192, Spec.soft (tok x w b n g) v) := by
  rw [← probPerplexity_eq]
  unfold diversity
  generalize probPerplexity x w b = p
  pointwise []
  rfl

/-- On real logits the straight-through assignment is the hard one. -/
theorem straight_apply (n : Fin 8192) (g : Fin 2) (v : Fin 1024) (h : Real' (tok x w b n g)) :
    straight (F := Ideal) (logits x w b) (ix3 n g v) = hot (tok x w b n g) v := by
  have e : ∀ k, logits (F := Ideal) x w b (ix2 n (code g k)) = tok x w b n g k := fun k => logits_apply x w b n g k
  have hr : ∃ r : ℝ, soft (F := Ideal) (logits x w b) (ix3 n g v) = (r : EReal) := by
    rw [soft_apply]
    simp only [e]
    exact soft_real (half_real h) v
  show hard (F := Ideal) (logits x w b) (ix3 n g v) + soft (F := Ideal) (logits x w b) (ix3 n g v)
    - soft (F := Ideal) (logits x w b) (ix3 n g v) = _
  rw [add_sub_real _ hr, hard_apply]
  exact congrFun (congrArg hot (funext e)) v

/-- The code vectors weighted by an assignment, at a batch entry, a feature and a time step. -/
theorem combine_apply (y : FVec Ideal S8192x2x1024 .f32) (i : Fin 4) (r : Fin 512) (t : Fin 2048) :
    combine (F := Ideal) y C (ix3 i r t)
      = ∑ j : Fin 1024, C (ix4 0 ⟨r.val / 256, by omega⟩ j ⟨r.val % 256, by omega⟩)
        * y (ix3 ⟨i.val * 2048 + t.val, by omega⟩ ⟨r.val / 256, by omega⟩ j) := by
  pointwise [combine]

/-- On real logits the quantised result is the code vector of the first largest logit. -/
theorem quantised_apply (h : ∀ n g, Real' (tok x w b n g)) (i : Fin 4) (r : Fin 512) (t : Fin 2048) :
    quantised (F := Ideal) x w b C (ix3 i r t)
      = ∑ j : Fin 1024, C (ix4 0 ⟨r.val / 256, by omega⟩ j ⟨r.val % 256, by omega⟩)
        * hot (tok x w b ⟨i.val * 2048 + t.val, by omega⟩ ⟨r.val / 256, by omega⟩) j := by
  unfold quantised
  rw [combine_apply]
  exact Finset.sum_congr rfl fun j _ => congrArg _ (straight_apply x w b _ _ j (h _ _))

end VQ.Ref

end

end
-- ==== Proof.PreRead.lean ====
/-
  The precondition read back: every entry of the input, of the weights and of the bias is a real number.
-/
module

public import proofs.«01_k».proof.Pre_finite_inputs
public import proofs.«01_k».proof.Proof.Spec
public import Idealize.ShloMosaic.Lib.ReduceAll

@[expose] public section

set_option maxRecDepth 16384

noncomputable section

namespace VQ.Pre

open Cert.Pre_finite_inputs Idealize.ShloMosaic VQ.Spec

/-- The shape relations the precondition's operations take. -/
instance facts : Cert.Pre_finite_inputs.Facts where
  bcast_S_S4x2048x2048 := by decide
  reducesTo_S4x2048x2048_S_d0_1_2 := by decide
  h_S_ := by decide
  bcast_S_S2048x2048 := by decide
  reducesTo_S2048x2048_S_d0_1 := by decide
  bcast_S_S2048 := by decide
  reducesTo_S2048_S_d0 := by decide

/-- A result of rank zero has one index. -/
instance : Subsingleton S_.Idx := ⟨fun a b => funext fun q => q.elim0⟩

/-- An extended real whose absolute value lies below infinity is real. -/
theorem real_of_abs (a : EReal) (h : Ideal.cmp .olt (max a (-a)) (Ideal.ofBits .f32 0x7F800000#32) = 1#1) :
    ∃ r : ℝ, a = (r : EReal) := by
  rw [ofBits_posInf] at h
  induction a using EReal.rec with
  | bot => simp [Ideal.cmp] at h
  | top => simp [Ideal.cmp] at h
  | coe r => exact ⟨r, rfl⟩

/-- An array that passes the test has real entries only. -/
theorem real_of_all {s : Shape} {axes : List (Fin s.rank)} (x : FVec Ideal s .f32) (hb : S_.BroadcastsInDim s ![])
    (h : s.ReducesTo axes S_) (hu : 0 < S_.numel)
    (e : Host.reduce IntOp.andi (cmpf .olt (Host.absf x) (broadcastInDim s ![] hb (constant (F := Ideal) S_ .f32 0x7F800000#32)))
      (constantI S_ 1 1#1) h hu (fun a => a.elim0) = 1#1) (i : s.Idx) : ∃ r : ℝ, x i = (r : EReal) := by
  exact real_of_abs (x i) (Host.reduce_andi_all _ _ h hu _ e i)

/-- The precondition makes every entry of the input, the weights and the bias real. -/
theorem real_inputs (x : FVec Ideal S4x2048x2048 .f32) (w : FVec Ideal S2048x2048 .f32) (b : FVec Ideal S2048 .f32)
    (C : FVec Ideal S1x2x1024x256 .f32) (h : fn (F := Ideal) x w b C = fun _ => 1#1) :
    (∀ i, ∃ r : ℝ, x i = (r : EReal)) ∧ (∀ i, ∃ r : ℝ, w i = (r : EReal)) ∧ ∀ i, ∃ r : ℝ, b i = (r : EReal) := by
  have one (p q : BitVec 1) : IntOp.andi p q = 1#1 → p = 1#1 ∧ q = 1#1 := by revert p q; decide
  have e := congrFun h (fun a => a.elim0)
  unfold fn at e
  obtain ⟨e', e3⟩ := one _ _ e
  obtain ⟨e1, e2⟩ := one _ _ e'
  exact ⟨real_of_all x _ _ _ e1, real_of_all w _ _ _ e2, real_of_all b _ _ _ e3⟩

end VQ.Pre

end

end
-- ==== Proof.Algebra.lean ====
/-
  The kernel and the reference compute the same four results on real inputs.
-/
module

public import proofs.«01_k».proof.Defs
public import proofs.«01_k».proof.Proof.KerValue
public import proofs.«01_k».proof.Proof.RefRead
public import proofs.«01_k».proof.Proof.RefRun
public import proofs.«01_k».proof.Proof.PreRead

@[expose] public section

set_option maxRecDepth 16384

noncomputable section

namespace VQ

open Idealize.ShloMosaic Idealize.ShloMosaic.TcCoe Idealize.SL.Sem VQ.Spec

section

open Cert.KernelIdeal Cert.KernelIdeal.Gen

variable (m : (ℓ : Loc nD τ sig) → Buf (Elt Ideal) ℓ) (c : Dev nD)

/-- The kernel's input. -/
abbrev input : FVec Ideal S4x2048x2048 .f32 := m ((c.tc : Thread nD τ).loc main_arg0)
/-- The kernel's weights. -/
abbrev weights : FVec Ideal S2048x2048 .f32 := m ((c.tc : Thread nD τ).loc main_arg1)
/-- The kernel's bias. -/
abbrev bias : FVec Ideal S2048 .f32 := m ((c.tc : Thread nD τ).loc main_arg2)
/-- The kernel's codebook. -/
abbrev codebook : FVec Ideal S1x2x1024x256 .f32 := m ((c.tc : Thread nD τ).loc main_arg3)

/-- Both sides read the same logits. -/
theorem tok_eq (n : Fin 8192) (g : Fin 2) : Ker.tok m c n g = Ref.tok (input m c) (weights m c) (bias m c) n g := rfl

/-- Under the precondition every logit is real. -/
theorem tok_real (h : Cert.Pre_finite_inputs.fn (F := Ideal) (input m c) (weights m c) (bias m c) (codebook m c) = fun _ => 1#1)
    (n : Fin 8192) (g : Fin 2) : Real' (Ref.tok (input m c) (weights m c) (bias m c) n g) := by
  obtain ⟨hx, hw, hb⟩ := Pre.real_inputs _ _ _ _ h
  exact row_real (fun i j k => hx _) (fun i j => hw _) (fun i => hb _) n g

/-- Two arrays of rank zero that agree at their one index are equal. -/
theorem scalar_ext (p q : S_.Idx → EReal) (h : p ix0 = q ix0) : p = q := funext fun i => by
  rw [show i = ix0 from funext fun a => a.elim0, h]

/-- The quantised arrays agree. -/
theorem quantised_eq (hr : ∀ n g, Real' (Ref.tok (input m c) (weights m c) (bias m c) n g)) :
    Ref.quantised (F := Ideal) (input m c) (weights m c) (bias m c) (codebook m c) = Ker.codes m c := by
  funext y
  obtain ⟨i, r, t, rfl⟩ : ∃ (i : Fin 4) (r : Fin 512) (t : Fin 2048), y = ix3 i r t :=
    ⟨y 0, y 1, y 2, funext fun a => match a with | ⟨0, _⟩ => rfl | ⟨1, _⟩ => rfl | ⟨2, _⟩ => rfl⟩
  exact (Ref.quantised_apply _ _ _ _ hr i r t).trans (Ker.codes_apply m c i r t).symm

/-- The code perplexities agree. -/
theorem codePerplexity_eq : Ref.codePerplexity (F := Ideal) (input m c) (weights m c) (bias m c)
    = shapeCast S_ (k0_pay6 (Ker.countsAt m c 7 Ker.lt7)) shapeCasts_S1x1_S_ := by
  refine scalar_ext _ _ ?_
  rw [Ker.codePerp, Ref.codePerplexity_eq]
  exact congrArg perp (funext fun g => funext fun v => (Ker.counts_eq m c g v).symm)

/-- The totals of the softmax agree. -/
theorem totals_eq (hr : ∀ n g, Real' (Ref.tok (input m c) (weights m c) (bias m c) n g)) :
    (fun (g : Fin 2) (v : Fin 1024) => ∑ n : Fin 8192, soft (Ref.tok (input m c) (weights m c) (bias m c) n g) v)
      = fun g v => Ker.probsAt m c 7 Ker.lt7 (ix2 g v : S2x1024.Idx) :=
  funext fun g => funext fun v => (Ker.probs_eq m c hr g v).symm

/-- The probability perplexities agree. -/
theorem probPerplexity_eq (hr : ∀ n g, Real' (Ref.tok (input m c) (weights m c) (bias m c) n g)) :
    Ref.probPerplexity (F := Ideal) (input m c) (weights m c) (bias m c)
      = shapeCast S_ (k0_pay7 (Ker.probsAt m c 7 Ker.lt7)) shapeCasts_S1x1_S_ := by
  refine scalar_ext _ _ ?_
  rw [Ker.probPerp, Ref.probPerplexity_eq]
  exact congrArg perp (totals_eq m c hr)

/-- The diversities agree. -/
theorem diversity_eq (hr : ∀ n g, Real' (Ref.tok (input m c) (weights m c) (bias m c) n g)) :
    Ref.diversity (F := Ideal) (input m c) (weights m c) (bias m c)
      = shapeCast S_ (k0_pay4 (k0_pay8 (Ker.probsAt m c 7 Ker.lt7))) shapeCasts_S1x1_S_ := by
  refine scalar_ext _ _ ?_
  rw [Ker.diversity, Ref.diversity_eq]
  exact congrArg (fun q => lack (perp q)) (totals_eq m c hr)

end

/-- On finite input, weights and bias the kernel and the reference end with equal results. -/
theorem algebraic : Cert.algebraic_KernelIdeal_ReferenceIdeal_pre_finite_inputs := fun m g m' g' hpre hargs =>
  ⟨_, _, _, _, Ker.run m g,
    (θ_run (Cert.ReferenceIdeal.defs (F := Ideal)) _ _).mono (fun r h c => by
      obtain ⟨h0, h1, h2, h3, hkept⟩ := h c
      obtain ⟨a0, a1, a2, a3⟩ := hargs c
      have hr := tok_real m c (hpre c)
      rw [a0, a1, a2, a3] at h0
      rw [a0, a1, a2] at h1 h2 h3
      exact ⟨h0.trans (quantised_eq m c hr), h1.trans (diversity_eq m c hr), h2.trans (codePerplexity_eq m c),
        h3.trans (probPerplexity_eq m c hr), hkept⟩) (Ref.run m' g')⟩

end VQ

end

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.RefRun
public import proofs.«01_k».proof.Proof.Algebra
public import Idealize.ShloMosaic.Adequacy
public import Idealize.ShloMosaic.Init

@[expose] public section

noncomputable section

namespace Cert.Proof

open Idealize.ShloMosaic Idealize.SL.Sem Cert.Kernel

/-- The reference leaves its arguments as they were and every semaphore counter at zero. -/
theorem quiescent_reference : Cert.quiescent_ReferenceIdeal := fun m g _ =>
  (θ_run (Cert.ReferenceIdeal.defs (F := Ideal)) _ _).mono
    (fun r h => ⟨fun c => (h c).2.2.2.2, Idealize.ShloMosaic.sem_eq_zero_of_no_sems (by decide) r.2⟩)
    (VQ.Ref.run m g)

/-- Every claim: the frames of the kernel, of its ideal form and of the reference, the ideal form's preservation, and the
    equality of all four results on finite inputs. -/
theorem claim : Cert.Claim := ⟨Cert.Kernel.Gen.facts, Cert.KernelIdeal.Gen.facts, Cert.ReferenceIdeal.Gen.facts, VQ.Pre.facts,
  fun m g _ => Cert.Kernel.Gen.frame m g, fun m g _ => Cert.KernelIdeal.Gen.frame m g, fun m g _ => Cert.KernelIdeal.Gen.frame m g,
  quiescent_reference, fun m g _ => quiescent_reference m g trivial, trivial, VQ.algebraic⟩

end Cert.Proof

end
